-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal [hPre_experts_named : Cert.Pre_experts_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] [hPre_experts_named : Cert.Pre_experts_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "exit" .f32 0xC2DC0000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_named := hPre_experts_named)
    ∧ quiescent_Kernel4Ideal (hKernel4Ideal := hKernel4Ideal) (hPre_experts_named := hPre_experts_named)
    ∧ quiescent_Reference4Ideal (hReference4Ideal := hReference4Ideal) (hPre_experts_named := hPre_experts_named)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_named := hPre_experts_named)
-- ==== Pre_experts_named.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : IVec S73728x512 32) (main_arg3 : FVec F S32x1024x512 .bf16) (main_arg4 : FVec F S32x1024x512 .bf16) (main_arg5 : FVec F S32x512x1024 .bf16) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S8x4096x5120 : Shape := ⟨3, ![8, 4096, 5120]⟩
abbrev S8x4096x512 : Shape := ⟨3, ![8, 4096, 512]⟩
abbrev S1x256x128 : Shape := ⟨3, ![1, 256, 128]⟩
abbrev S1x4096x128 : Shape := ⟨3, ![1, 4096, 128]⟩
abbrev S2x256x128 : Shape := ⟨3, ![2, 256, 128]⟩
abbrev S2x256x1 : Shape := ⟨3, ![2, 256, 1]⟩
abbrev S256x256 : Shape := ⟨2, ![256, 256]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 2
  | .vmem => 10
  | .smem => 0
  | _ => 0

abbrev bufTy : (tb : Table) → Fin (tcTables nBuf tb) → BufTy
  | .hbm, ⟨0, _⟩ => ⟨S8x4096x5120, .bf16⟩
  | .hbm, ⟨1, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S2x256x128, .f32⟩
  | .local _ .vmem, ⟨9, _⟩ => ⟨S2x256x1, .f32⟩
  | _, _ => ⟨S8x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c256_i32 : BitVec 32 := 256#32
  let v25 : BitVec 32 := Scalar.muli arg2 c256_i32
  v25
def k0_off1 (i : grid0.Coords) : Fin 3 → Nat :=
  let c0_5 : Index := 0#32
  let arg2 : BitVec 32 := BitVec.ofNat 32 (i 2).val
  let c256_i32 : BitVec 32 := 256#32
  let v25 : BitVec 32 := Scalar.muli arg2 c256_i32
  let v26 : BitVec 32 := v25
  let v27 : Index := Scalar.indexCast v26
  let c0_6 : Index := 0#32
  ![0, v27.toNat, 0]
def k0_mult2 (arg9 : BitVec 32) : BitVec 32 :=
  let c256_i32_59 : BitVec 32 := 256#32
  let v141 : BitVec 32 := Scalar.muli arg9 c256_i32_59
  v141

def k0_off2 (arg9 : BitVec 32) : Fin 3 → Nat :=
  let c0_60 : Index := 0#32
  let c256_i32_59 : BitVec 32 := 256#32
  let v141 : BitVec 32 := Scalar.muli arg9 c256_i32_59
  let v142 : BitVec 32 := v141
  let v143 : Index := Scalar.indexCast v142
  let c0_61 : Index := 0#32
  ![0, v143.toNat, 0]

def k0_chk1 (arg9 : BitVec 32) : Prop :=
  (256 ∣ (k0_mult2 arg9).toNat) ∧
  (∀ a, (k0_off2 arg9) a + S1x256x128.size a ≤ S1x4096x128.size a)
theorem k0_mult2_dvd : ∀ (arg9 : BitVec 32) (k0_hw1 : k0_chk1 arg9), 256 ∣ (k0_mult2 arg9).toNat := fun arg9 k0_hw1 => k0_hw1.1
theorem k0_off2_inb : ∀ (arg9 : BitVec 32) (k0_hw1 : k0_chk1 arg9), ∀ a, (k0_off2 arg9) a + S1x256x128.size a ≤ S1x4096x128.size a := fun arg9 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "exit" => some ⊥
  | _ => none
-- ==== ReferenceIdeal.lean ====
abbrev S8x4096x5120 : Shape := ⟨3, ![8, 4096, 5120]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x5120, .bf16⟩
  | .hbm, ⟨1, _⟩ => ⟨S8x4096x5120, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x8x64, .f32⟩
  | .hbm, ⟨6, _⟩ => ⟨S8x8x4096x64, .f32⟩
  | .hbm, ⟨7, _⟩ => ⟨S8x4096x8x64, .f32⟩
  | .hbm, ⟨8, _⟩ => ⟨S8x8x4096x64, .f32⟩
  | .hbm, ⟨9, _⟩ => ⟨S8x4096x8x64, .f32⟩
  | .hbm, ⟨10, _⟩ => ⟨S8x8x4096x64, .f32⟩
  | .hbm, ⟨11, _⟩ => ⟨S4096, .i32⟩
  | .hbm, ⟨12, _⟩ => ⟨S4096, .i32⟩
  | .hbm, ⟨13, _⟩ => ⟨S8x8x4096x4096, .f32⟩
  | .hbm, ⟨14, _⟩ => ⟨S_, .f32⟩
  | .hbm, ⟨15, _⟩ => ⟨S8x8x4096x4096, .f32⟩
  | .hbm, ⟨16, _⟩ => ⟨S8x8x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x8x4096x4096, .f32⟩
  | .hbm, ⟨23, _⟩ => ⟨S8x8x4096x4096, .f32⟩
  | .hbm, ⟨24, _⟩ => ⟨S_, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .i1⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S_, .f32⟩
  | .hbm, ⟨40, _⟩ => ⟨S_, .f32⟩
  | .hbm, ⟨41, _⟩ => ⟨S8x8x4096x4096, .i1⟩
  | .hbm, ⟨42, _⟩ => ⟨S8x8x4096x4096, .f32⟩
  | .hbm, ⟨43, _⟩ => ⟨S8x8x4096x4096, .f32⟩
  | .hbm, ⟨44, _⟩ => ⟨S_, .f32⟩
  | .hbm, ⟨45, _⟩ => ⟨S_, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .f32⟩
  | .hbm, ⟨49, _⟩ => ⟨S_, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .i1⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S8x8x4096x4096, .f32⟩
  | .hbm, ⟨66, _⟩ => ⟨S_, .f32⟩
  | .hbm, ⟨67, _⟩ => ⟨S_, .f32⟩
  | .hbm, ⟨68, _⟩ => ⟨S8x8x4096x4096, .i1⟩
  | .hbm, ⟨69, _⟩ => ⟨S8x8x4096x4096, .f32⟩
  | .hbm, ⟨70, _⟩ => ⟨S8x8x4096x4096, .f32⟩
  | .hbm, ⟨71, _⟩ => ⟨S8x8x4096x64, .f32⟩
  | .hbm, ⟨72, _⟩ => ⟨S8x4096x8x64, .f32⟩
  | .hbm, ⟨73, _⟩ => ⟨S8x4096x512, .f32⟩
  | .hbm, ⟨74, _⟩ => ⟨S8x4096x512, .bf16⟩
  | _, _ => ⟨S8x4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6x1024 : Shape := ⟨3, ![8, 6, 1024]⟩
abbrev S1024 : Shape := ⟨1, ![1024]⟩
abbrev S1024x5120 : Shape := ⟨2, ![1024, 5120]⟩
abbrev S1x1024 : Shape := ⟨2, ![1, 1024]⟩
abbrev S8x4096x5120 : Shape := ⟨3, ![8, 4096, 5120]⟩
abbrev S1x512x1024 : Shape := ⟨3, ![1, 512, 1024]⟩
abbrev S1x6x1024 : Shape := ⟨3, ![1, 6, 1024]⟩
abbrev S1x512x5120 : Shape := ⟨3, ![1, 512, 5120]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x5120, .f32⟩
  | .hbm, ⟨4, _⟩ => ⟨S1024x5120, .bf16⟩
  | .hbm, ⟨5, _⟩ => ⟨S1x1024, .f32⟩
  | .hbm, ⟨6, _⟩ => ⟨S8x4096x5120, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5120, .bf16⟩
  | .local _ .vmem, ⟨6, _⟩ => ⟨S1x512x5120, .bf16⟩
  | .local _ .vmem, ⟨7, _⟩ => ⟨S1x512x5120, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x4096x1024 : Shape := ⟨3, ![8, 4096, 1024]⟩
abbrev S8x6x1024 : Shape := ⟨3, ![8, 6, 1024]⟩
abbrev S1024 : Shape := ⟨1, ![1024]⟩
abbrev S1024x5120 : Shape := ⟨2, ![1024, 5120]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x5120, .f32⟩
  | .hbm, ⟨4, _⟩ => ⟨S8x1x1024, .f32⟩
  | .hbm, ⟨5, _⟩ => ⟨S8x1024, .f32⟩
  | .hbm, ⟨6, _⟩ => ⟨S8x1x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x5120, .f32⟩
  | .hbm, ⟨34, _⟩ => ⟨S8x4096x5120, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S8x4096x5120 : Shape := ⟨3, ![8, 4096, 5120]⟩
abbrev S8x6x1024 : Shape := ⟨3, ![8, 6, 1024]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S8x4096x128 : Shape := ⟨3, ![8, 4096, 128]⟩
abbrev S1x512x1024 : Shape := ⟨3, ![1, 512, 1024]⟩
abbrev S1x512x512 : Shape := ⟨3, ![1, 512, 512]⟩
abbrev S1x6x1024 : Shape := ⟨3, ![1, 6, 1024]⟩
abbrev S1x512x128 : Shape := ⟨3, ![1, 512, 128]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 27
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x5120, .bf16⟩
  | .hbm, ⟨4, _⟩ => ⟨S8x6x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S_, .f32⟩
  | .hbm, ⟨14, _⟩ => ⟨S1024x92, .f32⟩
  | .hbm, ⟨15, _⟩ => ⟨S1024x128, .f32⟩
  | .hbm, ⟨16, _⟩ => ⟨S_, .f32⟩
  | .hbm, ⟨17, _⟩ => ⟨S92, .f32⟩
  | .hbm, ⟨18, _⟩ => ⟨S128, .f32⟩
  | .hbm, ⟨19, _⟩ => ⟨S1x128, .f32⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S1x1024, .f32⟩
  | .hbm, ⟨24, _⟩ => ⟨S8x4096x1024, .f32⟩
  | .hbm, ⟨25, _⟩ => ⟨S8x4096x1024, .bf16⟩
  | .hbm, ⟨26, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x6x1024, .f32⟩
  | .local _ .vmem, ⟨11, _⟩ => ⟨S1x6x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x128, .f32⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x128, .f32⟩
  | .local _ .vmem, ⟨23, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x4096x1024 : Shape := ⟨3, ![8, 4096, 1024]⟩
abbrev S8x4096x512 : Shape := ⟨3, ![8, 4096, 512]⟩
abbrev S8x4096x5120 : Shape := ⟨3, ![8, 4096, 5120]⟩
abbrev S8x6x1024 : Shape := ⟨3, ![8, 6, 1024]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x1x1024 : Shape := ⟨3, ![8, 1, 1024]⟩
abbrev S8x1024 : Shape := ⟨2, ![8, 1024]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x92 : Shape := ⟨3, ![8, 4096, 92]⟩
abbrev S8x4096x4 : Shape := ⟨3, ![8, 4096, 4]⟩
abbrev S1x1x4 : Shape := ⟨3, ![1, 1, 4]⟩
abbrev S8x4096x32 : Shape := ⟨3, ![8, 4096, 32]⟩
abbrev S1x1x32 : Shape := ⟨3, ![1, 1, 32]⟩
abbrev S8x4096x128 : Shape := ⟨3, ![8, 4096, 128]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x5120, .bf16⟩
  | .hbm, ⟨4, _⟩ => ⟨S8x6x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x4096x2048, .bf16⟩
  | .hbm, ⟨23, _⟩ => ⟨S8x4096x2048, .f32⟩
  | .hbm, ⟨24, _⟩ => ⟨S8x4096x1024, .f32⟩
  | .hbm, ⟨25, _⟩ => ⟨S8x4096x1024, .f32⟩
  | .hbm, ⟨26, _⟩ => ⟨S8x4096x512, .f32⟩
  | .hbm, ⟨27, _⟩ => ⟨S8x4096x512, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x1x1024, .f32⟩
  | .hbm, ⟨71, _⟩ => ⟨S8x1x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096x92, .f32⟩
  | .hbm, ⟨78, _⟩ => ⟨S8x4096x4, .f32⟩
  | .hbm, ⟨79, _⟩ => ⟨S1x1x4, .f32⟩
  | .hbm, ⟨80, _⟩ => ⟨S8x4096x4, .f32⟩
  | .hbm, ⟨81, _⟩ => ⟨S8x4096x4, .f32⟩
  | .hbm, ⟨82, _⟩ => ⟨S8x4096x32, .f32⟩
  | .hbm, ⟨83, _⟩ => ⟨S1x1x32, .f32⟩
  | .hbm, ⟨84, _⟩ => ⟨S8x4096x32, .f32⟩
  | .hbm, ⟨85, _⟩ => ⟨S8x4096x32, .f32⟩
  | .hbm, ⟨86, _⟩ => ⟨S8x4096x128, .f32⟩
  | .hbm, ⟨87, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel4.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S73728x1024 : Shape := ⟨2, ![73728, 1024]⟩
abbrev S256x512 : Shape := ⟨2, ![256, 512]⟩
abbrev S1x1024x512 : Shape := ⟨3, ![1, 1024, 512]⟩
abbrev S1x512x1024 : Shape := ⟨3, ![1, 512, 1024]⟩
abbrev S256x1024 : Shape := ⟨2, ![256, 1024]⟩
abbrev S1024x512 : Shape := ⟨2, ![1024, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x512, .i32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S73728x1024, .bf16⟩
  | .local _ .vmem, ⟨0, _⟩ => ⟨S256x512, .i32⟩
  | .local _ .vmem, ⟨1, _⟩ => ⟨S256x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .bf16⟩
  | .local _ .vmem, ⟨9, _⟩ => ⟨S256x1024, .bf16⟩
  | .local _ .smem, ⟨0, _⟩ => ⟨S288, .i32⟩
  | .local _ .smem, ⟨1, _⟩ => ⟨S1, .i32⟩
  | _, _ => ⟨S73728x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S_ : Shape := ⟨0, ![]⟩
abbrev S73728x1024 : Shape := ⟨2, ![73728, 1024]⟩
abbrev S288x256x1024 : Shape := ⟨3, ![288, 256, 1024]⟩
abbrev S288x1 : Shape := ⟨2, ![288, 1]⟩
abbrev S288x1024x512 : Shape := ⟨3, ![288, 1024, 512]⟩
abbrev S288x256x512 : Shape := ⟨3, ![288, 256, 512]⟩
abbrev S288x512x1024 : Shape := ⟨3, ![288, 512, 1024]⟩
abbrev S288x1x1 : Shape := ⟨3, ![288, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x512, .i32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S32x1024x512, .f32⟩
  | .hbm, ⟨7, _⟩ => ⟨S32x1024x512, .f32⟩
  | .hbm, ⟨8, _⟩ => ⟨S32x512x1024, .f32⟩
  | .hbm, ⟨9, _⟩ => ⟨S_, .i32⟩
  | .hbm, ⟨10, _⟩ => ⟨S73728x512, .i32⟩
  | .hbm, ⟨11, _⟩ => ⟨S73728x512, .i32⟩
  | .hbm, ⟨12, _⟩ => ⟨S_, .i32⟩
  | .hbm, ⟨13, _⟩ => ⟨S73728x512, .i32⟩
  | .hbm, ⟨14, _⟩ => ⟨S73728x512, .i32⟩
  | .hbm, ⟨15, _⟩ => ⟨S73728x1024, .i32⟩
  | .hbm, ⟨16, _⟩ => ⟨S73728x1024, .f32⟩
  | .hbm, ⟨17, _⟩ => ⟨S288x256x1024, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1024x512, .f32⟩
  | .hbm, ⟨27, _⟩ => ⟨S288x256x512, .f32⟩
  | .hbm, ⟨28, _⟩ => ⟨S288x256x512, .f32⟩
  | .hbm, ⟨29, _⟩ => ⟨S288x256x512, .f32⟩
  | .hbm, ⟨30, _⟩ => ⟨S_, .f32⟩
  | .hbm, ⟨31, _⟩ => ⟨S288x256x512, .f32⟩
  | .hbm, ⟨32, _⟩ => ⟨S288x256x512, .f32⟩
  | .hbm, ⟨33, _⟩ => ⟨S_, .f32⟩
  | .hbm, ⟨34, _⟩ => ⟨S288x256x512, .f32⟩
  | .hbm, ⟨35, _⟩ => ⟨S288x256x512, .f32⟩
  | .hbm, ⟨36, _⟩ => ⟨S288x256x512, .f32⟩
  | .hbm, ⟨37, _⟩ => ⟨S_, .i32⟩
  | .hbm, ⟨38, _⟩ => ⟨S288, .i32⟩
  | .hbm, ⟨39, _⟩ => ⟨S288, .i1⟩
  | .hbm, ⟨40, _⟩ => ⟨S_, .i32⟩
  | .hbm, ⟨41, _⟩ => ⟨S288, .i32⟩
  | .hbm, ⟨42, _⟩ => ⟨S288, .i32⟩
  | .hbm, ⟨43, _⟩ => ⟨S288, .i32⟩
  | .hbm, ⟨44, _⟩ => ⟨S288x1, .i32⟩
  | .hbm, ⟨45, _⟩ => ⟨S288x1024x512, .f32⟩
  | .hbm, ⟨46, _⟩ => ⟨S288x256x512, .f32⟩
  | .hbm, ⟨47, _⟩ => ⟨S288x256x512, .f32⟩
  | .hbm, ⟨48, _⟩ => ⟨S_, .i32⟩
  | .hbm, ⟨49, _⟩ => ⟨S288, .i32⟩
  | .hbm, ⟨50, _⟩ => ⟨S288, .i1⟩
  | .hbm, ⟨51, _⟩ => ⟨S_, .i32⟩
  | .hbm, ⟨52, _⟩ => ⟨S288, .i32⟩
  | .hbm, ⟨53, _⟩ => ⟨S288, .i32⟩
  | .hbm, ⟨54, _⟩ => ⟨S288, .i32⟩
  | .hbm, ⟨55, _⟩ => ⟨S288x1, .i32⟩
  | .hbm, ⟨56, _⟩ => ⟨S288x512x1024, .f32⟩
  | .hbm, ⟨57, _⟩ => ⟨S288x256x1024, .f32⟩
  | .hbm, ⟨58, _⟩ => ⟨S288, .i32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S288x1x1, .i1⟩
  | .hbm, ⟨63, _⟩ => ⟨S_, .f32⟩
  | .hbm, ⟨64, _⟩ => ⟨S_, .f32⟩
  | .hbm, ⟨65, _⟩ => ⟨S288x256x1024, .i1⟩
  | .hbm, ⟨66, _⟩ => ⟨S288x256x1024, .f32⟩
  | .hbm, ⟨67, _⟩ => ⟨S288x256x1024, .f32⟩
  | .hbm, ⟨68, _⟩ => ⟨S73728x1024, .f32⟩
  | .hbm, ⟨69, _⟩ => ⟨S73728x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Proof.WordRun.lean ====
/-
  The kernel at any float instance, without an account of what it computes: it runs, and its argument stays. The scratch
  and the result's block are only known to be there.
-/
module

public import proofs.«01_k».proof.Kernel
public import proofs.«01_k».proof.Proof.Gen.Kernel.Launch
public import proofs.«01_k».proof.Proof.Gen.Kernel.Points
public import proofs.«01_k».proof.Proof.Gen.Kernel.Skeleton
public import Idealize.ShloMosaic.Lib.Tactic
public import Idealize.ShloMosaic.Lib.Claim
public import Idealize.ShloMosaic.Lib.Pipeline.Frame
public import Idealize.ShloMosaic.Lib.Pipeline.FrameBody

@[expose] public section

noncomputable section

namespace Cert.Proof.Word

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf ΦA)

variable {F : FTy → Type} [FloatOps F]

/-- The proof's resource algebra. -/
local notation "𝕄" => MT nD τ sig Unit (Elt F) ℕ (UR sig nD τ) ℕ

/-- The kernel's variants: the while's trips that may still run. -/
abbrev 𝒱₀ : Variants := Variants.nat

section Label

variable (c : Dev nD) (M4 : Memref sig .tc .vmem S1x4096x128 .bf16) (h4 : M4.IsWhole) (M5 : Memref sig .tc .vmem S1x4096x128 .bf16) (h5 : M5.IsWhole)
  (f4 : Buf (Elt F) (M4.view.loc (c : Thread nD τ))) (f5 : Buf (Elt F) (M5.view.loc (c : Thread nD τ)))

/-- What the loop touches: keys and values as they are, the scratch at something. -/
def held : sProp 𝕄 :=
  iprop((M4.view.loc (c : Thread nD τ) ↦[M4.view.set]{fullShare} f4) ∗ (M5.view.loc (c : Thread nD τ) ↦[M5.view.set]{fullShare} f5)
    ∗ (∃ f7, ((c : Thread nD τ).loc cc0_scratch0) ↦{fullShare} f7) ∗ (∃ f8, ((c : Thread nD τ).loc cc0_scratch1) ↦{fullShare} f8))

/-- The label gives back what it took. -/
def spec : sWPT 𝕄 (BitVec 32 × F .f32) := do
  sWPT.consume (held c M4 M5 f4 f5)
  let r ← sWPT.arbitrary
  sWPT.produce (held c M4 M5 f4 f5)
  pure r

theorem spec_apply (K : BitVec 32 × F .f32 → sProp 𝕄) :
    spec c M4 M5 f4 f5 K = iprop(held c M4 M5 f4 f5 ∗ ∀ r : BitVec 32 × F .f32, held c M4 M5 f4 f5 -∗ K r) := rfl

/-- The counter's test over `k` tiles fails at none, -/
theorem test_zero (b : BitVec 1) : ¬Scalar.andi (Scalar.cmpi .sge (Scalar.subi (BitVec.ofNat 32 0) 1#32) 0#32) b = 1#1 := by
  revert b; decide

/-- and the counter over `k + 1` tiles is the word of tile `k`, -/
theorem subi_succ : ∀ k < 16, Scalar.subi (BitVec.ofNat 32 (k + 1)) 1#32 = BitVec.ofNat 32 k := by decide

/-- whose rows are inside the keys. -/
theorem chk_of_lt : ∀ k < 16, k0_chk1 (BitVec.ofNat 32 k) := by decide

/-- The label's body meets the specification, by induction on the tiles left. -/
theorem spec_le (i : grid0.Coords) (E : Set ℕ) (v23 v24 : FVec F S256x128 .bf16) (v7 : FVec F S256x256 .bf16) :
    ∀ k : ℕ, k ≤ 16 → ∀ (w : F .f32) (K : BitVec 32 × F .f32 → sProp 𝕄), spec c M4 M5 f4 f5 K
      ⊢ wp frame (wpE (defs₀ (F := F)) 𝒱₀ (c : Thread nD τ) (some k)) E
          (defs₀ (F := F) .tc 1 ⟨i, M4, h4, M5, h5, v23, v7, Memref.whole cc0_scratch1, Memref.isWhole_whole _,
            Memref.whole cc0_scratch0, Memref.isWhole_whole _, v24, Scalar.subi (BitVec.ofNat 32 k) 1#32, w⟩) K := by
  intro k
  induction k with
  | zero =>
    intro _ w K
    rw [spec_apply]
    show _ ⊢ wp frame (wpE (defs₀ (F := F)) 𝒱₀ (c : Thread nD τ) (some 0)) E
      (cc0_while1 i M4 h4 M5 h5 v23 v7 (Memref.whole cc0_scratch1) (Memref.isWhole_whole _)
        (Memref.whole cc0_scratch0) (Memref.isWhole_whole _) v24 (Scalar.subi (BitVec.ofNat 32 0) 1#32) w) K
    simp only [cc0_while1_eq_skeleton]; unfold cc0_while1_skel
    simp only [test_zero, ↓reduceIte, Prog.pure_eq_ret]
    iintro ⟨H, Hk⟩
    rw [wp_ret]; imodintro
    iapply Hk
    iexact H
  | succ k ih =>
    intro hk w K
    have hk16 : k < 16 := by omega
    rw [spec_apply]
    show _ ⊢ wp frame (wpE (defs₀ (F := F)) 𝒱₀ (c : Thread nD τ) (some (k + 1))) E
      (cc0_while1 i M4 h4 M5 h5 v23 v7 (Memref.whole cc0_scratch1) (Memref.isWhole_whole _)
        (Memref.whole cc0_scratch0) (Memref.isWhole_whole _) v24 (Scalar.subi (BitVec.ofNat 32 (k + 1)) 1#32) w) K
    simp only [cc0_while1_eq_skeleton]; unfold cc0_while1_skel
    simp only [subi_succ k hk16]
    split
    · simp only [k0_part4_eq_skeleton, k0_part5_eq_skeleton]; unfold k0_part4_skel k0_part5_skel
      simp only [Prog.lift, Prog.bind_op, Prog.bind_ret, Prog.pure_eq_ret]
      unfold held
      iintro ⟨⟨H4, H5, ⟨%f7, H7⟩, ⟨%f8, H8⟩⟩, Hk⟩
      iapply (wp_assume 𝒱₀ (c : Thread nD τ) (some (k + 1)) E (chk_of_lt k hk16))
      iapply (wp_load 𝒱₀ (c : Thread nD τ) (some (k + 1)) E (m := M4) (View.setOn_subset_set _ _)) $$ H4; iintro H4
      iapply (wp_load 𝒱₀ (c : Thread nD τ) (some (k + 1)) E (m := M5) (View.setOn_subset_set _ _)) $$ H5; iintro H5
      iapply (wp_load 𝒱₀ (c : Thread nD τ) (some (k + 1)) E (m := Memref.whole cc0_scratch1) (Finset.subset_univ _)) $$ H8; iintro H8
      iapply (wp_load 𝒱₀ (c : Thread nD τ) (some (k + 1)) E (m := Memref.whole cc0_scratch1) (Finset.subset_univ _)) $$ H8; iintro H8
      iapply (wp_store 𝒱₀ (c : Thread nD τ) (some (k + 1)) E (m := Memref.whole cc0_scratch1) (r := Rect.unit (s := S2x256x1) ![0, 0, 0] S1x256x1.size inb_S2x256x1_S1x256x1_0_0_0) (Mk := Finset.univ) (Finset.subset_univ _)) $$ H8; iintro H8
      iapply (wp_load 𝒱₀ (c : Thread nD τ) (some (k + 1)) E (m := Memref.whole cc0_scratch0) (Finset.subset_univ _)) $$ H7; iintro H7
      iapply (wp_load 𝒱₀ (c : Thread nD τ) (some (k + 1)) E (m := Memref.whole cc0_scratch0) (Finset.subset_univ _)) $$ H7; iintro H7
      iapply (wp_store 𝒱₀ (c : Thread nD τ) (some (k + 1)) E (m := Memref.whole cc0_scratch0) (r := Rect.unit (s := S2x256x128) ![0, 0, 0] S1x256x128.size inb_S2x256x128_S1x256x128_0_0_0) (Mk := Finset.univ) (Finset.subset_univ _)) $$ H7; iintro H7
      iapply (wp_load 𝒱₀ (c : Thread nD τ) (some (k + 1)) E (m := Memref.whole cc0_scratch1) (Finset.subset_univ _)) $$ H8; iintro H8
      iapply (wp_load 𝒱₀ (c : Thread nD τ) (some (k + 1)) E (m := Memref.whole cc0_scratch1) (Finset.subset_univ _)) $$ H8; iintro H8
      iapply (wp_store 𝒱₀ (c : Thread nD τ) (some (k + 1)) E (m := Memref.whole cc0_scratch1) (r := Rect.unit (s := S2x256x1) ![1, 0, 0] S1x256x1.size inb_S2x256x1_S1x256x1_1_0_0) (Mk := Finset.univ) (Finset.subset_univ _)) $$ H8; iintro H8
      iapply (wp_load 𝒱₀ (c : Thread nD τ) (some (k + 1)) E (m := Memref.whole cc0_scratch0) (Finset.subset_univ _)) $$ H7; iintro H7
      iapply (wp_load 𝒱₀ (c : Thread nD τ) (some (k + 1)) E (m := Memref.whole cc0_scratch0) (Finset.subset_univ _)) $$ H7; iintro H7
      iapply (wp_store 𝒱₀ (c : Thread nD τ) (some (k + 1)) E (m := Memref.whole cc0_scratch0) (r := Rect.unit (s := S2x256x128) ![1, 0, 0] S1x256x128.size inb_S2x256x128_S1x256x128_1_0_0) (Mk := Finset.univ) (Finset.subset_univ _)) $$ H7; iintro H7
      iapply (wp_call_spec 𝒱₀ (c : Thread nD τ) (some (k + 1)) E (spec c M4 M5 f4 f5) k
        (fun u hu => by cases hu; exact Nat.lt_succ_self k) (ih (by omega) _))
      rw [spec_apply]; unfold held
      isplitl [H4 H5 H7 H8]
      · isplitl [H4]; · iexact H4
        isplitl [H5]; · iexact H5
        isplitl [H7]; · iexists _; iexact H7
        iexists _; iexact H8
      iintro %r H
      rw [wp_ret]; imodintro
      iapply Hk
      iexact H
    · simp only [Prog.pure_eq_ret]
      iintro ⟨H, Hk⟩
      rw [wp_ret]; imodintro
      iapply Hk
      iexact H

end Label

/-- One grid point: the inputs' blocks stay. -/
theorem sound_body (c : Dev nD) (i : grid0.Coords) (M3 : Memref sig .tc .vmem S1x256x128 .bf16) (h3 : M3.IsWhole)
    (M4 : Memref sig .tc .vmem S1x4096x128 .bf16) (h4 : M4.IsWhole) (M5 : Memref sig .tc .vmem S1x4096x128 .bf16) (h5 : M5.IsWhole)
    (M6 : Memref sig .tc .vmem S1x256x128 .bf16) (h6 : M6.IsWhole)
    (x3 : Vec F S1x256x128 .bf16) (x4 x5 : Vec F S1x4096x128 .bf16) (E : Set ℕ) (K : PUnit → sProp 𝕄) :
    iprop((owns (c : Thread nD τ) M3 fullShare x3 ∗ owns (c : Thread nD τ) M4 fullShare x4 ∗ owns (c : Thread nD τ) M5 fullShare x5
        ∗ (∃ X, owns (c : Thread nD τ) M6 fullShare X) ∗ (Pipeline.scopedRest (Ix := Unit) (Name := ℕ) (U := UR sig nD τ) (Lvl := ℕ) (Val := Elt F) spec0 c : sProp 𝕄))
      ∗ ((owns (c : Thread nD τ) M3 fullShare x3 ∗ owns (c : Thread nD τ) M4 fullShare x4 ∗ owns (c : Thread nD τ) M5 fullShare x5
        ∗ (∃ X, owns (c : Thread nD τ) M6 fullShare X) ∗ (Pipeline.scopedRest (Ix := Unit) (Name := ℕ) (U := UR sig nD τ) (Lvl := ℕ) (Val := Elt F) spec0 c : sProp 𝕄)) -∗ K ⟨⟩))
    ⊢ wp frame (wpE (defs₀ (F := F)) 𝒱₀ (c : Thread nD τ) none) E
        (cc0_stickbrk i M3 h3 M4 h4 M5 h5 M6 h6 (Memref.whole cc0_scratch0) (Memref.isWhole_whole _) (Memref.whole cc0_scratch1) (Memref.isWhole_whole _)) K := by
  have hi : (i 2).val < 16 := (i 2).isLt
  rw [scopedRest0_eq]
  simp only [cc0_stickbrk_eq_skeleton]; unfold cc0_stickbrk_skel
  simp only [k0_part1_eq_skeleton, k0_part2_eq_skeleton, k0_part3_eq_skeleton]; unfold k0_part1_skel k0_part2_skel k0_part3_skel
  simp only [Prog.lift, Prog.bind_op, Prog.bind_ret, Prog.pure_eq_ret]
  unfold owns
  iintro ⟨⟨⟨%f3, %hf3, H3⟩, ⟨%f4, %hf4, H4⟩, ⟨%f5, %hf5, H5⟩, ⟨%X6, %f6, %hf6, H6⟩, ⟨%f7, H7⟩, ⟨%f8, H8⟩⟩, Hk⟩
  iapply (wp_load 𝒱₀ (c : Thread nD τ) none E (m := M3) (View.setOn_subset_set _ _)) $$ H3; iintro H3
  iapply (wp_load 𝒱₀ (c : Thread nD τ) none E (m := M4) (View.setOn_subset_set _ _)) $$ H4; iintro H4
  iapply (wp_load 𝒱₀ (c : Thread nD τ) none E (m := M5) (View.setOn_subset_set _ _)) $$ H5; iintro H5
  iapply (wp_load 𝒱₀ (c : Thread nD τ) none E (m := Memref.whole cc0_scratch1) (Finset.subset_univ _)) $$ H8; iintro H8
  iapply (wp_store 𝒱₀ (c : Thread nD τ) none E (m := Memref.whole cc0_scratch1) (r := Rect.unit (s := S2x256x1) ![0, 0, 0] S1x256x1.size inb_S2x256x1_S1x256x1_0_0_0) (Mk := Finset.univ) (Finset.subset_univ _)) $$ H8; iintro H8
  iapply (wp_load 𝒱₀ (c : Thread nD τ) none E (m := Memref.whole cc0_scratch0) (Finset.subset_univ _)) $$ H7; iintro H7
  iapply (wp_store 𝒱₀ (c : Thread nD τ) none E (m := Memref.whole cc0_scratch0) (r := Rect.unit (s := S2x256x128) ![0, 0, 0] S1x256x128.size inb_S2x256x128_S1x256x128_0_0_0) (Mk := Finset.univ) (Finset.subset_univ _)) $$ H7; iintro H7
  iapply (wp_load 𝒱₀ (c : Thread nD τ) none E (m := Memref.whole cc0_scratch1) (Finset.subset_univ _)) $$ H8; iintro H8
  iapply (wp_store 𝒱₀ (c : Thread nD τ) none E (m := Memref.whole cc0_scratch1) (r := Rect.unit (s := S2x256x1) ![1, 0, 0] S1x256x1.size inb_S2x256x1_S1x256x1_1_0_0) (Mk := Finset.univ) (Finset.subset_univ _)) $$ H8; iintro H8
  iapply (wp_load 𝒱₀ (c : Thread nD τ) none E (m := Memref.whole cc0_scratch0) (Finset.subset_univ _)) $$ H7; iintro H7
  iapply (wp_store 𝒱₀ (c : Thread nD τ) none E (m := Memref.whole cc0_scratch0) (r := Rect.unit (s := S2x256x128) ![1, 0, 0] S1x256x128.size inb_S2x256x128_S1x256x128_1_0_0) (Mk := Finset.univ) (Finset.subset_univ _)) $$ H7; iintro H7
  iapply (wp_call_spec 𝒱₀ (c : Thread nD τ) none E (spec c M4 M5 f4 f5) (i 2).val
    (fun u hu => nomatch hu) (spec_le c M4 h4 M5 h5 f4 f5 i E _ _ _ (i 2).val (Nat.le_of_lt hi) _))
  rw [spec_apply]; unfold held
  isplitl [H4 H5 H7 H8]
  · isplitl [H4]; · iexact H4
    isplitl [H5]; · iexact H5
    isplitl [H7]; · iexists _; iexact H7
    iexists _; iexact H8
  iintro %r ⟨H4, H5, ⟨%g7, H7⟩, ⟨%g8, H8⟩⟩
  iapply (wp_load 𝒱₀ (c : Thread nD τ) none E (m := Memref.whole cc0_scratch0) (Finset.subset_univ _)) $$ H7; iintro H7
  iapply (wp_load 𝒱₀ (c : Thread nD τ) none E (m := Memref.whole cc0_scratch0) (Finset.subset_univ _)) $$ H7; iintro H7
  iapply (wp_load 𝒱₀ (c : Thread nD τ) none E (m := M6) (View.setOn_subset_set _ _)) $$ H6; iintro H6
  iapply (wp_store 𝒱₀ (c : Thread nD τ) none E (m := M6) (r := Rect.unit (s := S1x256x128) ![0, 0, 0] S1x256x128.size inb_S1x256x128_S1x256x128_0_0_0) (Mk := Finset.univ)
    ((View.setOn_subset_set _ _).trans (View.set_slice_subset _ _))) $$ H6; iintro H6
  rw [wp_ret]; imodintro
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; iexists _
    isplitr; swap; · iexact H6
    ipureintro; rfl
  isplitl [H7]; · iexists _; iexact H7
  iexists _; iexact H8

/-! ## The launch -/

variable (m : (ℓ : Loc nD τ sig) → Buf (Elt F) ℓ) (ρ : Dev nD → PrngReg)

/-- A core's buffers as the launch finds them. -/
abbrev V (c : Dev nD) (b : Ref sig .tc) : Buf (Elt F) ((c : Thread nD τ).loc b) := m ((c : Thread nD τ).loc b)

set_option maxHeartbeats 4000000 in
/-- The program is the one region. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the launch is proved from: the inputs' blocks stay; the result's window is forgotten. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q w := Pipeline.shareOf spec0 w
  owed _ := 0

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl

/-- An input's buffer holds its block at every point: the queries', -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rfl) t d).trans
    (by unfold Dat.fetched Dat.blockOf iblk; rfl)
/-- the keys', -/
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rfl) t d).trans
    (by unfold Dat.fetched Dat.blockOf iblk; rfl)
/-- the values'. -/
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rfl) t d).trans
    (by unfold Dat.fetched Dat.blockOf iblk; rfl)

/-- The window whose contents are not followed: the result's. -/
def fgt : Fin (cfg0 (F := F)).W → Bool := fun w => w.val == 3

/-- The body at every point: what `sound_body` says of it. -/
theorem body_obligation (c : Dev nD) : BodyObligationLoose (dats (F := F) m 0 c) (defs₀ (F := F)) 𝒱₀ () Set.univ (fgt (F := F)) := fun t => by
  rw [bigSep_W0, bigSep_W0]
  simp only [show fgt (F := F) (0 : Fin 4) = false from rfl, show fgt (F := F) (1 : Fin 4) = false from rfl,
    show fgt (F := F) (2 : Fin 4) = false from rfl, show fgt (F := F) (3 : Fin 4) = true from rfl]
  sl_whnfR [defs₀, Defs.onTc]
  rw [show (dats m 0 c).Φ t.succ = (dats m 0 c).Φ t.castSucc from rfl,
    show (dats m 0 c).owesAt () t.succ = (dats m 0 c).owesAt () t.castSucc from rfl, after0_0, after0_1, after0_2]
  rw [show (dats m 0 c).Φ t.castSucc = Pipeline.ΦA spec0 c from rfl]
  unfold Pipeline.ΦA
  iintro ⟨⟨HS, HΦ⟩, Ho, ⟨%d0, H0⟩, ⟨%d1, H1⟩, ⟨%d2, H2⟩, H3⟩
  rw [before0_0 m c t d0, before0_1 m c t d1, before0_2 m c t d2]
  iapply (sound_body c (grid0.coords t) _ _ _ _ _ _ _ _ (iblk m c 0 t) (iblk m c 1 t) (iblk m c 2 t) Set.univ _)
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HΦ HS]
  · isplitl [HS]; · iexact HS
    iexact HΦ
  isplitl [Ho]; · iexact Ho
  isplitl [H0]; · iexact H0
  isplitl [H1]; · iexact H1
  isplitl [H2]; · iexact H2
  iexact H3

set_option backward.isDefEq.respectTransparency.types false in
/-- Every execution terminates with the inputs' array as it was and every counter at zero. -/
theorem run_main : θ_run defs (onTc (τ := τ) (main (F := F))) ⟨m, fun _ => 0, ρ⟩
    (fun r => Pipeline.RDat.FramePost (cfg0 (F := F)) (fun c => (dats m 0 c).toRForget (fgt (F := F))) (V m) r ∧ r.2.sem = fun _ => 0) :=
  Pipeline.θ_run_frame_forget_shared (Q' := _) cfgs (dats m) (0 : Fin 1) launch₀0 defs₀ 𝒱₀ (fgt (F := F)) m ρ main
    (hbody := fun c => body_obligation m c) (hq := fun _ _ _ => rfl) (howed := fun _ _ => rfl) (V := V m)
    (hmain := hmain m) (hA := fun _ _ => rfl) (hΦ := fun _ _ => rfl)

/-- The frame. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => Pipeline.RDat.FramePost.arr_in h.1 c 0 rfl, h.2⟩) (run_main m ρ)

end Cert.Proof.Word

end
-- ==== Proof.Run.lean ====
/-
  The run of the stick-breaking attention call at any float instance: what one trip over the tiles does to the
  kernel's running state, the while loop against its specification, the body of one grid point, the launch.
-/
module

public import proofs.«01_k».proof.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.Pipeline.Frame
public import Idealize.ShloMosaic.Lib.Pipeline.FrameBody
public import Idealize.ShloMosaic.Lib.ViewIndex
public import Idealize.ShloMosaic.Lib.WholeRead

@[expose] public section

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra. -/
local notation "𝕄" => MT nD τ sig Unit (Elt F) ℕ (UR sig nD τ) ℕ

/-- The kernel's variants: the while's trips that may still run. -/
abbrev 𝒱₀ : Variants := Variants.nat

/-! ## The running state and one trip -/

/-- What the tile loop carries: for each of the two heads the column of summed log-survivals and the weighted
    values so far, and the largest entry of the two columns. -/
structure St (F : FTy → Type) where
  c0 : Vec F S1x256x1 .f32
  c1 : Vec F S1x256x1 .f32
  a0 : Vec F S1x256x128 .f32
  a1 : Vec F S1x256x128 .f32
  worst : F .f32

/-- Row `256 j + r` of the keys (or values), for row `r` of tile `j`. -/
def rowIx (j : ℕ) (y : S1x256x128.Idx) : S1x4096x128.Idx := fun a =>
  ⟨((![0, 256 * j, 0] : Fin 3 → ℕ) a + (y a).val) % S1x4096x128.size a, Nat.mod_lt _ (by fin_cases a <;> decide)⟩

/-- Tile `j` of the keys (or values): 256 rows from row `256 j`. -/
def tile (x : Vec F S1x4096x128 .bf16) (j : ℕ) : Vec F S1x256x128 .bf16 := fun y => x (rowIx j y)

/-- The state after the diagonal tile, from the queries' block and the diagonal tile of keys and values. -/
def start (q kt vt : Vec F S1x256x128 .bf16) : St F where
  c0 := k0_pay22 k0_pay7 (k0_pay17 q kt) (k0_pay18 q kt) (Scalar.ofBits .f32 0x3F800000#32)
  a0 := k0_pay23 k0_pay7 k0_pay8 (k0_pay15 vt) (k0_pay16 q kt) (k0_pay17 q kt) (k0_pay18 q kt) (Scalar.ofBits .f32 0x3F800000#32)
  c1 := k0_pay30 k0_pay7 (k0_pay25 (k0_pay13 q) (k0_pay14 kt)) k0_pay26
  a1 := k0_pay31 k0_pay7 k0_pay8 (k0_pay15 vt) (k0_pay25 (k0_pay13 q) (k0_pay14 kt)) k0_pay26
  worst := k0_pay1 (k0_pay24 k0_pay7 (k0_pay17 q kt) (k0_pay18 q kt) (Scalar.ofBits .f32 0x3F800000#32))
    (k0_pay32 k0_pay7 (k0_pay25 (k0_pay13 q) (k0_pay14 kt)) k0_pay26)

/-- One trip of the loop: the state after a tile that lies wholly in the past. -/
def trip (q kt vt : Vec F S1x256x128 .bf16) (s : St F) : St F where
  c0 := k0_pay40 (k0_pay39 (k0_pay12 q) kt s.c0)
  a0 := k0_pay41 (k0_pay38 (k0_pay12 q) k0_pay8 kt vt s.c0) s.a0
  c1 := k0_pay4 (k0_pay44 (k0_pay13 q) (k0_pay33 kt)) (k0_pay45 s.c1)
  a1 := k0_pay5 (k0_pay34 vt) (k0_pay46 k0_pay8 (k0_pay13 q) (k0_pay33 kt)) (k0_pay47 s.c1) s.a1
  worst := k0_pay6 (k0_pay42 (k0_pay39 (k0_pay12 q) kt s.c0)) (k0_pay44 (k0_pay13 q) (k0_pay33 kt)) (k0_pay45 s.c1)

/-- The loop with tiles `k - 1, …, 0` left: it stops early once no column entry is above the exit bound. -/
def loop (q : Vec F S1x256x128 .bf16) (x4 x5 : Vec F S1x4096x128 .bf16) : ℕ → St F → St F
  | 0, s => s
  | k + 1, s =>
    if Scalar.cmpf .ogt s.worst (Named.named κ "exit" 0xC2DC0000#32 : F .f32) = 1#1 then
      loop q x4 x5 k (trip q (tile x4 k) (tile x5 k) s)
    else s

/-- What one grid point leaves in the result's block. -/
def outAt (i : grid0.Coords) (q : Vec F S1x256x128 .bf16) (x4 x5 : Vec F S1x4096x128 .bf16) : Vec F S1x256x128 .bf16 :=
  k0_pay2 (loop q x4 x5 (i 2).val (start q (tile x4 (i 2).val) (tile x5 (i 2).val))).a0
    (loop q x4 x5 (i 2).val (start q (tile x4 (i 2).val) (tile x5 (i 2).val))).a1

/-! ## Words, offsets and reads -/

/-- The loop's test on the tile counter: above no tile it fails, -/
theorem test_zero (b : BitVec 1) : ¬Scalar.andi (Scalar.cmpi .sge (Scalar.subi (BitVec.ofNat 32 0) 1#32) 0#32) b = 1#1 := by
  revert b; decide

/-- and with a tile left it is the other test. -/
theorem test_succ : ∀ k < 16, ∀ b : BitVec 1,
    Scalar.andi (Scalar.cmpi .sge (Scalar.subi (BitVec.ofNat 32 (k + 1)) 1#32) 0#32) b = b := by decide

/-- The counter over `k + 1` tiles is the word of tile `k`. -/
theorem subi_succ : ∀ k < 16, Scalar.subi (BitVec.ofNat 32 (k + 1)) 1#32 = BitVec.ofNat 32 k := by decide

/-- Tile `k`'s rows are inside the keys. -/
theorem chk_of_lt : ∀ k < 16, k0_chk1 (BitVec.ofNat 32 k) := by decide

/-- The offsets of tile `k`. -/
theorem off2_eq : ∀ k < 16, k0_off2 (BitVec.ofNat 32 k) = ![0, 256 * k, 0] := by decide

theorem off1_eq : ∀ i : Fin 16, (![0, (Scalar.indexCast (Scalar.muli (BitVec.ofNat 32 i.val) 256#32)).toNat, 0] : Fin 3 → ℕ)
    = ![0, 256 * i.val, 0] := by decide

/-- A load of 256 rows at tile `j`'s offsets from a whole memref that reads `x` is tile `j` of `x`. -/
theorem read_tile {M : Memref sig .tc .vmem S1x4096x128 .bf16} (h : M.IsWhole) (x : Vec F S1x4096x128 .bf16) (j : ℕ) (hj : j < 16)
    {off : Fin 3 → ℕ} (hoff : off = ![0, 256 * j, 0]) (inb) :
    View.readAt (Elt F) M.view (Rect.unit (s := S1x4096x128) off S1x256x128.size inb).toLoadRect (h.unread x) = tile x j := by
  funext y
  refine (Memref.IsWhole.readAt_unread h x _ y).trans (congrArg x (funext fun a => Fin.ext ?_))
  subst hoff
  have hy := (y a).isLt
  simp only [rowIx, LoadRect.idx_apply, Rect.off_unit, Rect.stride_unit, Nat.one_mul]
  rw [Nat.mod_eq_of_lt]
  have h1 := inb a
  revert hy h1
  fin_cases a <;> simp <;> omega

/-- The slices of the two scratch buffers, by head. -/
abbrev rA (h : ℕ) (inb : ∀ a, (![h, 0, 0] : Fin 3 → ℕ) a + S1x256x128.size a ≤ S2x256x128.size a) : Rect S2x256x128 :=
  Rect.unit (s := S2x256x128) ![h, 0, 0] S1x256x128.size inb
abbrev rC (h : ℕ) (inb : ∀ a, (![h, 0, 0] : Fin 3 → ℕ) a + S1x256x1.size a ≤ S2x256x1.size a) : Rect S2x256x1 :=
  Rect.unit (s := S2x256x1) ![h, 0, 0] S1x256x1.size inb

/-- A rectangle of a view written whole reads the payload, -/
theorem readAt_write_same {s : Shape} {e : EltTy} {sp : Space} (v : View sig .tc sp s e) (r : Rect s)
    (f : v.ty.Contents (Elt F)) (w : r.shape.Idx → Elt F e) :
    v.readAt (Elt F) r.toLoadRect ((v.slice r).write (Elt F) f w Finset.univ) = w := by
  funext x
  exact View.read_slice_write_emb (v := v) r f w (Finset.mem_univ x)

/-- and a rectangle disjoint from it reads what it did. -/
theorem readAt_write_other {s : Shape} {e : EltTy} {sp : Space} (v : View sig .tc sp s e) (r r' : Rect s)
    (f : v.ty.Contents (Elt F)) (w : r'.shape.Idx → Elt F e) (h : Disjoint r.set r'.set) :
    v.readAt (Elt F) r.toLoadRect ((v.slice r').write (Elt F) f w Finset.univ) = v.readAt (Elt F) r.toLoadRect f :=
  View.read_slice_write_slice_of_disjoint (v := v) r r' f w Finset.univ
    (View.disjoint_slice (v := v) h)

/-! ## The while's label, met by its body -/

section Label

variable (c : Dev nD) (M4 : Memref sig .tc .vmem S1x4096x128 .bf16) (h4 : M4.IsWhole) (M5 : Memref sig .tc .vmem S1x4096x128 .bf16) (h5 : M5.IsWhole)
  (q : Vec F S1x256x128 .bf16) (x4 x5 : Vec F S1x4096x128 .bf16)

/-- Contents of the two scratch buffers whose slices are a state's arrays. -/
structure Holds (f7 : (cc0_scratch0 : Ref sig .tc).ty.Contents (Elt F)) (f8 : (cc0_scratch1 : Ref sig .tc).ty.Contents (Elt F)) (s : St F) : Prop where
  a0 : (Memref.whole cc0_scratch0 : Memref sig .tc _ _ _).view.readAt (Elt F) (rA 0 inb_S2x256x128_S1x256x128_0_0_0).toLoadRect f7 = s.a0
  a1 : (Memref.whole cc0_scratch0 : Memref sig .tc _ _ _).view.readAt (Elt F) (rA 1 inb_S2x256x128_S1x256x128_1_0_0).toLoadRect f7 = s.a1
  c0 : (Memref.whole cc0_scratch1 : Memref sig .tc _ _ _).view.readAt (Elt F) (rC 0 inb_S2x256x1_S1x256x1_0_0_0).toLoadRect f8 = s.c0
  c1 : (Memref.whole cc0_scratch1 : Memref sig .tc _ _ _).view.readAt (Elt F) (rC 1 inb_S2x256x1_S1x256x1_1_0_0).toLoadRect f8 = s.c1

/-- The buffers the loop reads and writes: keys and values as fetched, the scratch at the state. -/
def held (s : St F) : sProp 𝕄 :=
  iprop((M4.view.loc (c : Thread nD τ) ↦[M4.view.set]{fullShare} h4.unread x4) ∗ (M5.view.loc (c : Thread nD τ) ↦[M5.view.set]{fullShare} h5.unread x5)
    ∗ ∃ f7 f8, ⌜Holds f7 f8 s⌝ ∗ (((c : Thread nD τ).loc cc0_scratch0) ↦{fullShare} f7) ∗ (((c : Thread nD τ).loc cc0_scratch1) ↦{fullShare} f8))

/-- The label's specification with tiles `k - 1, …, 0` left: the scratch goes from `s` to the loop's final state. -/
def spec (k : ℕ) (s : St F) : sWPT 𝕄 (BitVec 32 × F .f32) := do
  sWPT.consume (held c M4 h4 M5 h5 x4 x5 s)
  let r ← sWPT.arbitrary
  sWPT.produce (held c M4 h4 M5 h5 x4 x5 (loop q x4 x5 k s))
  pure r

theorem spec_apply (k : ℕ) (s : St F) (K : BitVec 32 × F .f32 → sProp 𝕄) :
    spec c M4 h4 M5 h5 q x4 x5 k s K
      = iprop(held c M4 h4 M5 h5 x4 x5 s ∗ ∀ r : BitVec 32 × F .f32, held c M4 h4 M5 h5 x4 x5 (loop q x4 x5 k s) -∗ K r) := rfl

/-- The two slices of either scratch buffer are disjoint. -/
theorem disjA (i j) : Disjoint (rA 0 i).set (rA 1 j).set := Rect.unit_disjoint (0 : Fin 3) (Or.inl (by decide))
theorem disjC (i j) : Disjoint (rC 0 i).set (rC 1 j).set := Rect.unit_disjoint (0 : Fin 3) (Or.inl (by decide))

/-- After all four slices are stored the scratch holds the stored state, whatever was there. -/
theorem holds_writes (f7 : (cc0_scratch0 : Ref sig .tc).ty.Contents (Elt F)) (f8 : (cc0_scratch1 : Ref sig .tc).ty.Contents (Elt F)) (s : St F) :
    Holds
      (((Memref.whole cc0_scratch0).access (rA 1 inb_S2x256x128_S1x256x128_1_0_0) : View sig .tc _ _ _).write (Elt F)
        (((Memref.whole cc0_scratch0).access (rA 0 inb_S2x256x128_S1x256x128_0_0_0) : View sig .tc _ _ _).write (Elt F) f7 s.a0 Finset.univ) s.a1 Finset.univ)
      (((Memref.whole cc0_scratch1).access (rC 1 inb_S2x256x1_S1x256x1_1_0_0) : View sig .tc _ _ _).write (Elt F)
        (((Memref.whole cc0_scratch1).access (rC 0 inb_S2x256x1_S1x256x1_0_0_0) : View sig .tc _ _ _).write (Elt F) f8 s.c0 Finset.univ) s.c1 Finset.univ)
      s where
  a0 := (readAt_write_other _ _ _ _ _ (disjA _ _)).trans (readAt_write_same _ _ _ _)
  a1 := readAt_write_same _ _ _ _
  c0 := (readAt_write_other _ _ _ _ _ (disjC _ _)).trans (readAt_write_same _ _ _ _)
  c1 := readAt_write_same _ _ _ _

/-- The label's body meets the specification, by induction on the tiles left. -/
theorem spec_le (i : grid0.Coords) (E : Set ℕ) :
    ∀ k, k ≤ 16 → ∀ (s : St F) (K : BitVec 32 × F .f32 → sProp 𝕄), spec c M4 h4 M5 h5 q x4 x5 k s K
      ⊢ wp frame (wpE (defs₀ (F := F)) 𝒱₀ (c : Thread nD τ) (some k)) E
          (defs₀ (F := F) .tc 1 ⟨i, M4, h4, M5, h5, k0_pay12 q, k0_pay8, Memref.whole cc0_scratch1, Memref.isWhole_whole _,
            Memref.whole cc0_scratch0, Memref.isWhole_whole _, k0_pay13 q, Scalar.subi (BitVec.ofNat 32 k) 1#32, s.worst⟩) K := by
  intro k
  induction k with
  | zero =>
    intro _ s K
    rw [spec_apply]
    show _ ⊢ wp frame (wpE (defs₀ (F := F)) 𝒱₀ (c : Thread nD τ) (some 0)) E
      (cc0_while1 i M4 h4 M5 h5 (k0_pay12 q) k0_pay8 (Memref.whole cc0_scratch1) (Memref.isWhole_whole _)
        (Memref.whole cc0_scratch0) (Memref.isWhole_whole _) (k0_pay13 q) (Scalar.subi (BitVec.ofNat 32 0) 1#32) s.worst) K
    simp only [cc0_while1_eq_skeleton]; unfold cc0_while1_skel
    simp only [test_zero, ↓reduceIte, Prog.pure_eq_ret]
    iintro ⟨H, Hk⟩
    rw [wp_ret]; imodintro
    iapply Hk
    simp only [loop]; iexact H
  | succ k ih =>
    intro hk s K
    have hk16 : k < 16 := by omega
    rw [spec_apply]
    show _ ⊢ wp frame (wpE (defs₀ (F := F)) 𝒱₀ (c : Thread nD τ) (some (k + 1))) E
      (cc0_while1 i M4 h4 M5 h5 (k0_pay12 q) k0_pay8 (Memref.whole cc0_scratch1) (Memref.isWhole_whole _)
        (Memref.whole cc0_scratch0) (Memref.isWhole_whole _) (k0_pay13 q) (Scalar.subi (BitVec.ofNat 32 (k + 1)) 1#32) s.worst) K
    simp only [cc0_while1_eq_skeleton]; unfold cc0_while1_skel
    by_cases hw : Scalar.cmpf .ogt s.worst (Named.named κ "exit" 0xC2DC0000#32 : F .f32) = 1#1
    · simp only [test_succ k hk16]
      simp only [hw, ↓reduceIte, subi_succ k hk16]
      simp only [k0_part4_eq_skeleton, k0_part5_eq_skeleton]; unfold k0_part4_skel k0_part5_skel
      simp only [Prog.lift, Prog.bind_op, Prog.bind_ret, Prog.pure_eq_ret]
      unfold held
      iintro ⟨⟨H4, H5, %f7, %f8, %hs, H7, H8⟩, Hk⟩
      have hl : loop q x4 x5 (k + 1) s = loop q x4 x5 k (trip q (tile x4 k) (tile x5 k) s) := by rw [loop, if_pos hw]
      rw [hl]
      iapply (wp_assume 𝒱₀ (c : Thread nD τ) (some (k + 1)) E (chk_of_lt k hk16))
      iapply (wp_load 𝒱₀ (c : Thread nD τ) (some (k + 1)) E (m := M4) (View.setOn_subset_set _ _)) $$ H4; iintro H4
      rw [read_tile h4 x4 k hk16 (off2_eq k hk16)]
      iapply (wp_load 𝒱₀ (c : Thread nD τ) (some (k + 1)) E (m := M5) (View.setOn_subset_set _ _)) $$ H5; iintro H5
      rw [read_tile h5 x5 k hk16 (off2_eq k hk16)]
      iapply (wp_load 𝒱₀ (c : Thread nD τ) (some (k + 1)) E (m := Memref.whole cc0_scratch1) (Finset.subset_univ _)) $$ H8; iintro H8
      rw [hs.c0]
      iapply (wp_load 𝒱₀ (c : Thread nD τ) (some (k + 1)) E (m := Memref.whole cc0_scratch1) (Finset.subset_univ _)) $$ H8; iintro H8
      iapply (wp_store 𝒱₀ (c : Thread nD τ) (some (k + 1)) E (m := Memref.whole cc0_scratch1) (r := rC 0 inb_S2x256x1_S1x256x1_0_0_0) (Mk := Finset.univ) (Finset.subset_univ _)) $$ H8; iintro H8
      iapply (wp_load 𝒱₀ (c : Thread nD τ) (some (k + 1)) E (m := Memref.whole cc0_scratch0) (Finset.subset_univ _)) $$ H7; iintro H7
      rw [hs.a0]
      iapply (wp_load 𝒱₀ (c : Thread nD τ) (some (k + 1)) E (m := Memref.whole cc0_scratch0) (Finset.subset_univ _)) $$ H7; iintro H7
      iapply (wp_store 𝒱₀ (c : Thread nD τ) (some (k + 1)) E (m := Memref.whole cc0_scratch0) (r := rA 0 inb_S2x256x128_S1x256x128_0_0_0) (Mk := Finset.univ) (Finset.subset_univ _)) $$ H7; iintro H7
      iapply (wp_load 𝒱₀ (c : Thread nD τ) (some (k + 1)) E (m := Memref.whole cc0_scratch1) (Finset.subset_univ _)) $$ H8; iintro H8
      have e1 := (readAt_write_other (Memref.whole cc0_scratch1 : Memref sig .tc _ _ _).view (rC 1 inb_S2x256x1_S1x256x1_1_0_0) (rC 0 inb_S2x256x1_S1x256x1_0_0_0) f8
        (trip q (tile x4 k) (tile x5 k) s).c0 (disjC _ _).symm).trans hs.c1
      have e2 := (readAt_write_other (Memref.whole cc0_scratch0 : Memref sig .tc _ _ _).view (rA 1 inb_S2x256x128_S1x256x128_1_0_0) (rA 0 inb_S2x256x128_S1x256x128_0_0_0) f7
        (trip q (tile x4 k) (tile x5 k) s).a0 (disjA _ _).symm).trans hs.a1
      simp only [trip] at e1 e2
      rw [e1]
      iapply (wp_load 𝒱₀ (c : Thread nD τ) (some (k + 1)) E (m := Memref.whole cc0_scratch1) (Finset.subset_univ _)) $$ H8; iintro H8
      iapply (wp_store 𝒱₀ (c : Thread nD τ) (some (k + 1)) E (m := Memref.whole cc0_scratch1) (r := rC 1 inb_S2x256x1_S1x256x1_1_0_0) (Mk := Finset.univ) (Finset.subset_univ _)) $$ H8; iintro H8
      iapply (wp_load 𝒱₀ (c : Thread nD τ) (some (k + 1)) E (m := Memref.whole cc0_scratch0) (Finset.subset_univ _)) $$ H7; iintro H7
      rw [e2]
      iapply (wp_load 𝒱₀ (c : Thread nD τ) (some (k + 1)) E (m := Memref.whole cc0_scratch0) (Finset.subset_univ _)) $$ H7; iintro H7
      iapply (wp_store 𝒱₀ (c : Thread nD τ) (some (k + 1)) E (m := Memref.whole cc0_scratch0) (r := rA 1 inb_S2x256x128_S1x256x128_1_0_0) (Mk := Finset.univ) (Finset.subset_univ _)) $$ H7; iintro H7
      iapply (wp_call_spec 𝒱₀ (c : Thread nD τ) (some (k + 1)) E (spec c M4 h4 M5 h5 q x4 x5 k (trip q (tile x4 k) (tile x5 k) s)) k
        (fun u hu => by cases hu; exact Nat.lt_succ_self k) (ih (by omega) (trip q (tile x4 k) (tile x5 k) s)))
      rw [spec_apply]; unfold held
      isplitl [H4 H5 H7 H8]
      · isplitl [H4]; · iexact H4
        isplitl [H5]; · iexact H5
        iexists _; iexists _
        isplitr; · ipureintro; exact holds_writes f7 f8 (trip q (tile x4 k) (tile x5 k) s)
        isplitl [H7]; · iexact H7
        iexact H8
      iintro %r H
      rw [wp_ret]; imodintro
      iapply Hk
      iexact H
    · simp only [test_succ k hk16]
      simp only [hw, ↓reduceIte, Prog.pure_eq_ret]
      iintro ⟨H, Hk⟩
      rw [wp_ret]; imodintro
      iapply Hk
      have hl : loop q x4 x5 (k + 1) s = s := by rw [loop, if_neg hw]
      rw [hl]; iexact H

end Label

end Cert.Proof.SB

end
-- ==== Proof.Body.lean ====
/-
  One grid point of the stick-breaking attention call and the launch, at any float instance.
-/
module

public import proofs.«01_k».proof.Proof.Run
public import Idealize.ShloMosaic.Lib.Claim

@[expose] public section

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra. -/
local notation "𝕄" => MT nD τ sig Unit (Elt F) ℕ (UR sig nD τ) ℕ

/-! ## The body of one grid point -/

/-- A load of the whole block of a whole memref that reads `x` is `x`. -/
theorem read_block {M : Memref sig .tc .vmem S1x256x128 .bf16} (h : M.IsWhole) (x : Vec F S1x256x128 .bf16) (inb) :
    View.readAt (Elt F) M.view (Rect.unit (s := S1x256x128) ![0, 0, 0] S1x256x128.size inb).toLoadRect (h.unread x) = x := by
  funext y
  refine (Memref.IsWhole.readAt_unread h x _ y).trans (congrArg x (funext fun a => Fin.ext ?_))
  simp only [LoadRect.idx_apply, Rect.off_unit, Rect.stride_unit, Nat.one_mul]
  fin_cases a <;> simp

/-- A store of the whole block leaves the memref reading what was stored. -/
theorem read_write_block (M : Memref sig .tc .vmem S1x256x128 .bf16) (f : M.view.ty.Contents (Elt F)) (w : Vec F S1x256x128 .bf16) (inb) :
    M.view.read (Elt F) ((M.access (Rect.unit (s := S1x256x128) ![0, 0, 0] S1x256x128.size inb) : View sig .tc _ _ _).write (Elt F) f w Finset.univ) = w := by
  funext y
  have h := congrFun (readAt_write_same M.view (Rect.unit (s := S1x256x128) ![0, 0, 0] S1x256x128.size inb) f w) y
  refine Eq.trans ?_ h
  refine congrArg (M.view.read (Elt F) _) (funext fun a => Fin.ext ?_)
  simp only [LoadRect.idx_apply, Rect.off_unit, Rect.stride_unit, Nat.one_mul]
  fin_cases a <;> simp

/-- One grid point: the blocks in place, the result's block at `outAt`, the scratch at something. -/
theorem sound_body (c : Dev nD) (i : grid0.Coords) (M3 : Memref sig .tc .vmem S1x256x128 .bf16) (h3 : M3.IsWhole)
    (M4 : Memref sig .tc .vmem S1x4096x128 .bf16) (h4 : M4.IsWhole) (M5 : Memref sig .tc .vmem S1x4096x128 .bf16) (h5 : M5.IsWhole)
    (M6 : Memref sig .tc .vmem S1x256x128 .bf16) (h6 : M6.IsWhole)
    (x3 : Vec F S1x256x128 .bf16) (x4 x5 : Vec F S1x4096x128 .bf16) (E : Set ℕ) (K : PUnit → sProp 𝕄) :
    iprop((owns (c : Thread nD τ) M3 fullShare x3 ∗ owns (c : Thread nD τ) M4 fullShare x4 ∗ owns (c : Thread nD τ) M5 fullShare x5
        ∗ (∃ X, owns (c : Thread nD τ) M6 fullShare X) ∗ (Pipeline.scopedRest (Ix := Unit) (Name := ℕ) (U := UR sig nD τ) (Lvl := ℕ) (Val := Elt F) spec0 c : sProp 𝕄))
      ∗ ((owns (c : Thread nD τ) M3 fullShare x3 ∗ owns (c : Thread nD τ) M4 fullShare x4 ∗ owns (c : Thread nD τ) M5 fullShare x5
        ∗ owns (c : Thread nD τ) M6 fullShare (outAt i x3 x4 x5) ∗ (Pipeline.scopedRest (Ix := Unit) (Name := ℕ) (U := UR sig nD τ) (Lvl := ℕ) (Val := Elt F) spec0 c : sProp 𝕄)) -∗ K ⟨⟩))
    ⊢ wp frame (wpE (defs₀ (F := F)) 𝒱₀ (c : Thread nD τ) none) E
        (cc0_stickbrk i M3 h3 M4 h4 M5 h5 M6 h6 (Memref.whole cc0_scratch0) (Memref.isWhole_whole _) (Memref.whole cc0_scratch1) (Memref.isWhole_whole _)) K := by
  have hi : (i 2).val < 16 := (i 2).isLt
  have hoff : k0_off1 i = ![0, 256 * (i 2).val, 0] := off1_eq (i 2)
  rw [scopedRest0_eq]
  simp only [cc0_stickbrk_eq_skeleton]; unfold cc0_stickbrk_skel
  simp only [k0_part1_eq_skeleton, k0_part2_eq_skeleton, k0_part3_eq_skeleton]; unfold k0_part1_skel k0_part2_skel k0_part3_skel
  simp only [Prog.lift, Prog.bind_op, Prog.bind_ret, Prog.pure_eq_ret]
  unfold owns
  iintro ⟨⟨⟨%f3, %hf3, H3⟩, ⟨%f4, %hf4, H4⟩, ⟨%f5, %hf5, H5⟩, ⟨%X6, %f6, %hf6, H6⟩, ⟨%f7, H7⟩, ⟨%f8, H8⟩⟩, Hk⟩
  obtain rfl := h3.eq_unread hf3
  obtain rfl := h4.eq_unread hf4
  obtain rfl := h5.eq_unread hf5
  iapply (wp_load 𝒱₀ (c : Thread nD τ) none E (m := M3) (View.setOn_subset_set _ _)) $$ H3; iintro H3
  rw [read_block h3 x3]
  iapply (wp_load 𝒱₀ (c : Thread nD τ) none E (m := M4) (View.setOn_subset_set _ _)) $$ H4; iintro H4
  rw [read_tile h4 x4 (i 2).val hi hoff]
  iapply (wp_load 𝒱₀ (c : Thread nD τ) none E (m := M5) (View.setOn_subset_set _ _)) $$ H5; iintro H5
  rw [read_tile h5 x5 (i 2).val hi hoff]
  iapply (wp_load 𝒱₀ (c : Thread nD τ) none E (m := Memref.whole cc0_scratch1) (Finset.subset_univ _)) $$ H8; iintro H8
  iapply (wp_store 𝒱₀ (c : Thread nD τ) none E (m := Memref.whole cc0_scratch1) (r := rC 0 inb_S2x256x1_S1x256x1_0_0_0) (Mk := Finset.univ) (Finset.subset_univ _)) $$ H8; iintro H8
  iapply (wp_load 𝒱₀ (c : Thread nD τ) none E (m := Memref.whole cc0_scratch0) (Finset.subset_univ _)) $$ H7; iintro H7
  iapply (wp_store 𝒱₀ (c : Thread nD τ) none E (m := Memref.whole cc0_scratch0) (r := rA 0 inb_S2x256x128_S1x256x128_0_0_0) (Mk := Finset.univ) (Finset.subset_univ _)) $$ H7; iintro H7
  iapply (wp_load 𝒱₀ (c : Thread nD τ) none E (m := Memref.whole cc0_scratch1) (Finset.subset_univ _)) $$ H8; iintro H8
  iapply (wp_store 𝒱₀ (c : Thread nD τ) none E (m := Memref.whole cc0_scratch1) (r := rC 1 inb_S2x256x1_S1x256x1_1_0_0) (Mk := Finset.univ) (Finset.subset_univ _)) $$ H8; iintro H8
  iapply (wp_load 𝒱₀ (c : Thread nD τ) none E (m := Memref.whole cc0_scratch0) (Finset.subset_univ _)) $$ H7; iintro H7
  iapply (wp_store 𝒱₀ (c : Thread nD τ) none E (m := Memref.whole cc0_scratch0) (r := rA 1 inb_S2x256x128_S1x256x128_1_0_0) (Mk := Finset.univ) (Finset.subset_univ _)) $$ H7; iintro H7
  iapply (wp_call_spec 𝒱₀ (c : Thread nD τ) none E (spec c M4 h4 M5 h5 x3 x4 x5 (i 2).val (start x3 (tile x4 (i 2).val) (tile x5 (i 2).val))) (i 2).val
    (fun u hu => nomatch hu) (spec_le c M4 h4 M5 h5 x3 x4 x5 i E (i 2).val (Nat.le_of_lt hi) (start x3 (tile x4 (i 2).val) (tile x5 (i 2).val))))
  rw [spec_apply]; unfold held
  isplitl [H4 H5 H7 H8]
  · isplitl [H4]; · iexact H4
    isplitl [H5]; · iexact H5
    iexists _; iexists _
    isplitr; · ipureintro; exact holds_writes f7 f8 (start x3 (tile x4 (i 2).val) (tile x5 (i 2).val))
    isplitl [H7]; · iexact H7
    iexact H8
  iintro %r ⟨H4, H5, %g7, %g8, %hg, H7, H8⟩
  iapply (wp_load 𝒱₀ (c : Thread nD τ) none E (m := Memref.whole cc0_scratch0) (Finset.subset_univ _)) $$ H7; iintro H7
  rw [hg.a0]
  iapply (wp_load 𝒱₀ (c : Thread nD τ) none E (m := Memref.whole cc0_scratch0) (Finset.subset_univ _)) $$ H7; iintro H7
  rw [hg.a1]
  iapply (wp_load 𝒱₀ (c : Thread nD τ) none E (m := M6) (View.setOn_subset_set _ _)) $$ H6; iintro H6
  iapply (wp_store 𝒱₀ (c : Thread nD τ) none E (m := M6) (r := Rect.unit (s := S1x256x128) ![0, 0, 0] S1x256x128.size inb_S1x256x128_S1x256x128_0_0_0) (Mk := Finset.univ)
    ((View.setOn_subset_set _ _).trans (View.set_slice_subset _ _))) $$ H6; iintro H6
  rw [wp_ret]; imodintro
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists (M6.access (Rect.unit (s := S1x256x128) ![0, 0, 0] S1x256x128.size inb_S1x256x128_S1x256x128_0_0_0) : View sig .tc _ _ _).write (Elt F) f6 (outAt i x3 x4 x5) Finset.univ
    isplitr; · ipureintro; exact read_write_block M6 f6 (outAt i x3 x4 x5) _
    iexact H6
  isplitl [H7]; · iexists _; iexact H7
  iexists _; iexact H8

/-! ## The launch's data -/

variable (m : (ℓ : Loc nD τ sig) → Buf (Elt F) ℓ) (ρ : Dev nD → PrngReg)

/-- A core's buffers as the launch finds them. -/
abbrev V (c : Dev nD) (b : Ref sig .tc) : Buf (Elt F) ((c : Thread nD τ).loc b) := m ((c : Thread nD τ).loc b)

set_option maxHeartbeats 4000000 in
/-- The program is the one region. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the launch is proved from: inputs' blocks stay, the result's block becomes `outAt` of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (grid0.coords t) (iblk m c 0 t) (iblk m c 1 t) (iblk m c 2 t)
  Φ _ := Pipeline.ΦA spec0 c
  q w := Pipeline.shareOf spec0 w
  owed _ := 0

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) :
    (dats m 0 c).after 3 t = outAt (grid0.coords t) (iblk m c 0 t) (iblk m c 1 t) (iblk m c 2 t) := by dsimp only [dats]; rfl

/-- An input's buffer holds its block at every point: the queries', -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rfl) t d).trans
    (by unfold Dat.fetched Dat.blockOf iblk; rfl)
/-- the keys', -/
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rfl) t d).trans
    (by unfold Dat.fetched Dat.blockOf iblk; rfl)
/-- the values'. -/
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rfl) t d).trans
    (by unfold Dat.fetched Dat.blockOf iblk; rfl)

/-- The body at every point: what `sound_body` says of it. -/
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold Pipeline.ΦA
  iintro ⟨⟨HS, HΦ⟩, Ho, ⟨%d0, H0⟩, ⟨%d1, H1⟩, ⟨%d2, H2⟩, ⟨%d3, H3⟩⟩
  rw [before0_0 m c t d0, before0_1 m c t d1, before0_2 m c t d2]
  iapply (sound_body c (grid0.coords t) _ _ _ _ _ _ _ _ (iblk m c 0 t) (iblk m c 1 t) (iblk m c 2 t) Set.univ _)
  isplitl [H0 H1 H2 H3 HS]
  · isplitl [H0]; · iexact H0
    isplitl [H1]; · iexact H1
    isplitl [H2]; · iexact H2
    isplitl [H3]; · iexists _; iexact H3
    iexact HS
  iintro ⟨H0, H1, H2, H3, HS⟩
  isplitl [HΦ HS]
  · isplitl [HS]; · iexact HS
    iexact HΦ
  isplitl [Ho]; · iexact Ho
  isplitl [H0]; · iexact H0
  isplitl [H1]; · iexact H1
  isplitl [H2]; · iexact H2
  iexact H3

/-! ## The run and the frame -/

set_option backward.isDefEq.respectTransparency.types false in
/-- Every execution terminates, with every array at what the launch's data says and every counter at zero. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl) (howed := fun _ _ => rfl) (V := V m)
    (hmain := hmain m) (hA := fun _ _ => rfl) (hΦ := fun _ _ => rfl)

/-- The argument survives and the counters end at zero; the result's array is what the launch's data says. -/
theorem run_out : θ_run defs (onTc (τ := τ) (main (F := F))) ⟨m, fun _ => 0, ρ⟩ (fun r => (∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0))
      ∧ r.2.sem = fun _ => 0) :=
  (θ_run defs _ _).mono (fun _ h => ⟨fun c => ⟨(h.1 c).1 3, ((h.1 c).1 0).trans ((dats m 0 c).arrAt_in 0 rfl _)⟩, h.2⟩) (run_main m ρ)

/-- The frame. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (run_out m ρ)

end Cert.Proof.SB

end
-- ==== Proof.Frames.lean ====
/-
  The claims that say the three programs run, and the named constant's.
-/
module

public import proofs.«01_k».proof.Defs
public import proofs.«01_k».proof.Proof.WordRun
public import proofs.«01_k».proof.Proof.Body
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel runs at the machine's words, its argument unchanged and every counter at zero. -/
theorem frame_p : Cert.quiescent_Kernel := fun m ρ _ => Word.frame_all m ρ

/-- So does its idealization at the extended reals, -/
theorem frame_pi : Cert.quiescent_KernelIdeal := fun m ρ _ => SB.frame_all m ρ

/-- and the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table gives the early exit's bound the value `⊥`. -/
theorem preserves : Cert.preserves_Kernel_KernelIdeal :=
  IdealRules.named_const.statement Cert.KernelIdeal.κ "exit" .f32 0xC2DC0000#32 ⊥ rfl

end Cert.Proof

end
-- ==== Proof.Scalar.lean ====
/-
  The extended-real arithmetic of stick-breaking: the log-survival of a score, the weight of a past position, and the
  sums over a row's past, cut at tiles.
-/
module

public import Idealize.ShloMosaic.Lib.IdealHost
public import Idealize.ShloMosaic.Lib.WordCmp

@[expose] public section

noncomputable section

namespace Cert.Proof.SB

open Idealize.ShloMosaic

/-! ## One score -/

/-- The log-survival of a score as the kernel computes it: `-(max z 0 + log (1 + exp (-|z|)))`. -/
def lk (z : EReal) : EReal := 0 - (max z 0 + Ideal.log (1 + Ideal.exp (0 - max z (-z))))

/-- The log-sigmoid of a score as the reference computes it. -/
def lsg (z : EReal) : EReal := -(max (-z) 0 + Ideal.log1p (Ideal.exp (-max (-z) (-(-z)))))

theorem log_one : Ideal.log 1 = 0 := by
  rw [show (1 : EReal) = ((1 : ℝ) : EReal) from rfl, Ideal.log_coe]; simp

/-- The embedding of the reals keeps maxima. -/
theorem coe_max' (a b : ℝ) : ((max a b : ℝ) : EReal) = max (a : EReal) (b : EReal) := EReal.coe_strictMono.monotone.map_max

theorem lk_top : lk ⊤ = ⊥ := by simp [lk, log_one]

theorem lk_bot : lk ⊥ = 0 := by simp [lk, log_one]

/-- The softplus correction at a real score is a real. -/
theorem corr_coe (r : ℝ) : Ideal.log (1 + Ideal.exp (0 - max (r : EReal) (-(r : EReal)))) = ((Real.log (1 + Real.exp (-|r|)) : ℝ) : EReal) := by
  have hp : ¬1 + Real.exp (-|r|) ≤ 0 := not_le.2 (by positivity)
  rw [show (0 : EReal) - max (r : EReal) (-(r : EReal)) = ((-|r| : ℝ) : EReal) by
      rw [abs_eq_max_neg, zero_sub, EReal.coe_neg, coe_max', EReal.coe_neg], Ideal.exp_coe,
    show (1 : EReal) + ((Real.exp (-|r|) : ℝ) : EReal) = ((1 + Real.exp (-|r|) : ℝ) : EReal) by norm_cast, Ideal.log_coe,
    if_neg hp]

theorem lk_coe (r : ℝ) : lk r = ((-(max r 0 + Real.log (1 + Real.exp (-|r|))) : ℝ) : EReal) := by
  unfold lk
  rw [corr_coe, zero_sub, EReal.coe_neg, EReal.coe_add, coe_max']; rfl

/-- A log-survival is never `+∞`. -/
theorem lk_ne_top (z : EReal) : lk z ≠ ⊤ := by
  induction z with
  | bot => rw [lk_bot]; exact EReal.zero_ne_top
  | top => rw [lk_top]; exact bot_ne_top
  | coe r => rw [lk_coe]; exact EReal.coe_ne_top _

theorem lsg_top : lsg ⊤ = 0 := by simp [lsg, Ideal.log1p, log_one]

theorem lsg_bot : lsg ⊥ = ⊥ := by simp [lsg, Ideal.log1p, log_one]

/-- The reference's log-sigmoid of the negated score is the log-survival. -/
theorem lsg_neg (z : EReal) : lsg (-z) = lk z := by
  unfold lsg lk Ideal.log1p
  rw [neg_neg, zero_sub, zero_sub]

theorem lsg_coe (r : ℝ) : lsg r = ((r - (max r 0 + Real.log (1 + Real.exp (-|r|))) : ℝ) : EReal) := by
  have h := lsg_neg (((-r : ℝ)) : EReal)
  rw [EReal.coe_neg, neg_neg] at h
  rw [h, ← EReal.coe_neg, lk_coe, abs_neg]
  congr 1
  rcases le_total r 0 with h0 | h0
  · rw [max_eq_left (by linarith), max_eq_right h0]; ring
  · rw [max_eq_right (by linarith), max_eq_left h0]; ring

/-- The reference's weight, with the log-survival taken back out of the inclusive sum, is the kernel's. -/
theorem weight_eq (z S : EReal) : Ideal.exp (lsg z + ((lk z + S) - lk z)) = Ideal.exp (z + lk z + S) := by
  induction z with
  | bot => rw [lsg_bot, EReal.bot_add, EReal.bot_add, EReal.bot_add]
  | top => rw [lk_top, lsg_top, EReal.bot_add, EReal.add_bot, EReal.bot_add, zero_add, EReal.bot_sub]
  | coe r =>
    have h : (lk r + S) - lk r = S := by
      rw [lk_coe]; exact EReal.add_sub_cancel_left
    rw [h, lsg_coe, lk_coe]
    congr 2

/-- A value and what is left of it after taking it away: the two parts the kernel multiplies apart. -/
theorem add_sub_self (x : EReal) (h : x ≠ ⊤) : x + (x - x) = x := by
  induction x with
  | bot => rfl
  | top => exact absurd rfl h
  | coe r => rw [← EReal.coe_sub, sub_self]; exact add_zero _

/-- The two parts multiplied apart by zeros and ones add up to the whole. -/
theorem sum_parts {n : ℕ} (f : Fin n → EReal) (p : Fin n → Prop) [DecidablePred p] (hf : ∀ u, f u ≠ ⊤) :
    (∑ u, if p u then f u else 0) + (∑ u, if p u then f u - f u else 0) = ∑ u, if p u then f u else 0 := by
  rw [← Finset.sum_add_distrib]
  refine Finset.sum_congr rfl fun u _ => ?_
  split_ifs
  · exact add_sub_self _ (hf u)
  · exact add_zero _

/-! ## Sums over a row's past -/

/-- A window `[b + lo, b + hi)` of a tile that starts at `b`, as a sum over the tile. -/
theorem sum_window {n : ℕ} (f : ℕ → EReal) (b lo hi : ℕ) (h : hi ≤ n) :
    ∑ u ∈ Finset.Ico (b + lo) (b + hi), f u = ∑ u : Fin n, if lo ≤ u.val ∧ u.val < hi then f (b + u.val) else 0 := by
  rw [Fin.sum_univ_eq_sum_range (fun u => if lo ≤ u ∧ u < hi then f (b + u) else 0) n, ← Finset.sum_filter,
    add_comm b lo, add_comm b hi, ← Finset.sum_Ico_add']
  refine Finset.sum_congr (Finset.ext fun u => ?_) fun u _ => by rw [add_comm]
  rw [Finset.mem_Ico, Finset.mem_filter, Finset.mem_range]
  exact ⟨fun hu => ⟨lt_of_lt_of_le hu.2 h, hu⟩, fun hu => hu.2⟩

/-- The sum of the log-survivals of positions `lo … t - 1`. -/
def surv (l : ℕ → EReal) (lo t : ℕ) : EReal := ∑ u ∈ Finset.Ico lo t, l u

/-- The weighted values of positions `lo … t - 1` of row `t`. -/
def tot (z v : ℕ → EReal) (lo t : ℕ) : EReal :=
  ∑ s ∈ Finset.Ico lo t, Ideal.exp (z s + lk (z s) + surv (fun u => lk (z u)) (s + 1) t) * v s

/-- Once the log-survivals down to a position sum to `-∞`, no earlier position carries weight. -/
theorem tot_of_surv_bot (z v : ℕ → EReal) (b t : ℕ) (hb : b ≤ t) (h : surv (fun u => lk (z u)) b t = ⊥) :
    tot z v 0 t = tot z v b t := by
  unfold tot
  rw [← Finset.sum_Ico_consecutive _ (Nat.zero_le b) hb]
  refine (congrArg (· + _) (Finset.sum_eq_zero fun s hs => ?_)).trans (zero_add _)
  have hs' := (Finset.mem_Ico.1 hs).2
  rw [surv, ← Finset.sum_Ico_consecutive _ hs' hb, show ∑ u ∈ Finset.Ico b t, lk (z u) = ⊥ from h, EReal.add_bot, EReal.add_bot,
    Ideal.exp_bot, zero_mul]

/-- A tile wholly in the past: the log-survivals, -/
theorem surv_tile (l : ℕ → EReal) (k t : ℕ) (h : 256 * (k + 1) ≤ t) :
    surv l (256 * k) t = surv l (256 * (k + 1)) t + ∑ y : Fin 256, l (256 * k + y.val) := by
  unfold surv
  rw [← Finset.sum_Ico_consecutive _ (show 256 * k ≤ 256 * (k + 1) by omega) h, add_comm]
  congr 1
  rw [show 256 * k = 256 * k + 0 from rfl, show 256 * (k + 1) = 256 * k + 256 by ring]
  rw [sum_window (n := 256) _ _ _ _ le_rfl]
  exact Finset.sum_congr rfl fun u _ => if_pos ⟨Nat.zero_le _, u.isLt⟩

/-- and the weighted values. -/
theorem tot_tile (z v : ℕ → EReal) (k t : ℕ) (h : 256 * (k + 1) ≤ t) :
    tot z v (256 * k) t = tot z v (256 * (k + 1)) t
      + ∑ y : Fin 256, Ideal.exp (z (256 * k + y.val) + lk (z (256 * k + y.val))
          + (∑ u : Fin 256, if y.val < u.val then lk (z (256 * k + u.val)) else 0)
          + surv (fun u => lk (z u)) (256 * (k + 1)) t) * v (256 * k + y.val) := by
  unfold tot
  rw [← Finset.sum_Ico_consecutive _ (show 256 * k ≤ 256 * (k + 1) by omega) h, add_comm]
  congr 1
  rw [show Finset.Ico (256 * k) (256 * (k + 1)) = Finset.Ico (256 * k + 0) (256 * k + 256) by rw [Nat.mul_succ]; rfl]
  rw [sum_window (n := 256) _ _ _ _ le_rfl]
  refine Finset.sum_congr rfl fun y _ => (if_pos ⟨Nat.zero_le _, y.isLt⟩).trans ?_
  have hs : surv (fun u => lk (z u)) (256 * k + y.val + 1) t
      = (∑ u : Fin 256, if y.val < u.val then lk (z (256 * k + u.val)) else 0) + surv (fun u => lk (z u)) (256 * (k + 1)) t := by
    unfold surv
    rw [← Finset.sum_Ico_consecutive _ (show 256 * k + y.val + 1 ≤ 256 * (k + 1) by have := y.isLt; omega) h]
    congr 1
    rw [show 256 * (k + 1) = 256 * k + 256 by ring, add_assoc, sum_window (n := 256) _ _ _ _ le_rfl]
    exact Finset.sum_congr rfl fun u _ => if_congr ⟨fun h => h.1, fun h => ⟨h, u.isLt⟩⟩ rfl rfl
  rw [hs, ← add_assoc]

/-- The diagonal tile: the log-survivals before row `r`, -/
theorem surv_diag (l : ℕ → EReal) (n : ℕ) (r : Fin 256) :
    surv l (256 * n) (256 * n + r.val) = ∑ y : Fin 256, if y.val < r.val then l (256 * n + y.val) else 0 := by
  unfold surv
  rw [show Finset.Ico (256 * n) (256 * n + r.val) = Finset.Ico (256 * n + 0) (256 * n + r.val) from rfl,
    sum_window (n := 256) _ _ _ _ r.isLt.le]
  exact Finset.sum_congr rfl fun u _ => if_congr ⟨fun h => h.2, fun h => ⟨Nat.zero_le _, h⟩⟩ rfl rfl

/-- and the weighted values. -/
theorem tot_diag (z v : ℕ → EReal) (n : ℕ) (r : Fin 256) :
    tot z v (256 * n) (256 * n + r.val) = ∑ y : Fin 256, (if y.val < r.val then
      Ideal.exp (z (256 * n + y.val) + lk (z (256 * n + y.val))
        + ∑ u : Fin 256, if y.val < u.val then (if u.val < r.val then lk (z (256 * n + u.val)) else 0) else 0) else 0) * v (256 * n + y.val) := by
  unfold tot
  rw [show Finset.Ico (256 * n) (256 * n + r.val) = Finset.Ico (256 * n + 0) (256 * n + r.val) from rfl,
    sum_window (n := 256) _ _ _ _ r.isLt.le]
  refine Finset.sum_congr rfl fun y _ => ?_
  by_cases h : y.val < r.val
  · rw [if_pos ⟨Nat.zero_le _, h⟩, if_pos h]
    congr 3
    unfold surv
    rw [add_assoc, sum_window (n := 256) _ _ _ _ r.isLt.le]
    refine Finset.sum_congr rfl fun u _ => ?_
    rw [← ite_and]
    exact if_congr Iff.rfl rfl rfl
  · rw [if_neg fun hh => h hh.2, if_neg h, zero_mul]

/-- The reference's row: the weights from the inclusive sums of the masked log-survivals, over every position, are the
    sums over the row's past. -/
theorem row_eq (z v : ℕ → EReal) {n : ℕ} (t : Fin n) :
    (∑ s : Fin n, (if s.val < t.val then
        Ideal.exp (lsg (z s.val) + ((∑ u : Fin n, if s.val ≤ u.val then (if u.val < t.val then lk (z u.val) else 0) else 0)
          - (if s.val < t.val then lk (z s.val) else 0))) else 0) * v s.val) = tot z v 0 t.val := by
  unfold tot
  have hw := sum_window (n := n) (fun s => Ideal.exp (z s + lk (z s) + surv (fun u => lk (z u)) (s + 1) t) * v s) 0 0 t.val t.isLt.le
  rw [zero_add, zero_add] at hw
  rw [hw]
  refine Finset.sum_congr rfl fun s _ => ?_
  by_cases hs : s.val < t.val
  · rw [if_pos hs, if_pos hs, if_pos ⟨Nat.zero_le _, hs⟩, zero_add, ← weight_eq]
    congr 4
    have hc := sum_window (n := n) (fun u => lk (z u)) 0 s.val t.val t.isLt.le
    rw [zero_add, zero_add] at hc
    unfold surv
    rw [← Finset.sum_eq_sum_Ico_succ_bot hs (fun u => lk (z u)), hc]
    refine Finset.sum_congr rfl fun u _ => ?_
    rw [← ite_and, zero_add]
  · rw [if_neg hs, if_neg fun h => hs h.2, zero_mul]

/-! ## The scale, and a head's lanes -/

/-- A non-negative real factor comes out of a sum. -/
theorem sum_mul_coe {n : ℕ} (f : Fin n → EReal) (c : ℝ) (hc : 0 ≤ c) : (∑ e, f e) * (c : EReal) = ∑ e, f e * (c : EReal) := by
  classical
  refine Finset.induction_on (Finset.univ : Finset (Fin n)) (by simp) fun a s ha ih => ?_
  rw [Finset.sum_insert ha, Finset.sum_insert ha, ← ih]
  exact EReal.right_distrib_of_nonneg_of_ne_top (EReal.coe_nonneg.2 hc) (EReal.coe_ne_top _) _ _

/-- The scale's pattern is the real one eighth. -/
theorem ofBits_eighth : Ideal.ofBits .f32 0x3E000000#32 = ((1 / 8 : ℝ) : EReal) := by
  simp [Ideal.ofBits, Ideal.ieee, -EReal.coe_mul]; norm_num

/-- The lanes of head `h` of a pair, out of the 128. -/
theorem sum_lanes (f : Fin 128 → EReal) (h : Fin 2) :
    (∑ x : Fin 128, if x.val / 64 = h.val then f x else 0) = ∑ e : Fin 64, f ⟨64 * h.val + e.val, by omega⟩ := by
  rw [← Finset.sum_filter]
  symm
  refine Finset.sum_bij (fun e _ => ⟨64 * h.val + e.val, by omega⟩) ?_ ?_ ?_ ?_
  · intro e _; simp only [Finset.mem_filter, Finset.mem_univ, true_and]; omega
  · intro a _ b _ hab; ext; have := congrArg Fin.val hab; simp only at this; omega
  · intro x hx
    have hx' := (Finset.mem_filter.1 hx).2
    exact ⟨⟨x.val % 64, Nat.mod_lt _ (by norm_num)⟩, Finset.mem_univ _, Fin.ext (by simp only; omega)⟩
  · intro e _; rfl

end Cert.Proof.SB

end
-- ==== Proof.Ref.lean ====
/-
  The reference at an index: each row's weighted values are the sums over the row's past.
-/
module

public import proofs.«01_k».proof.Proof.Gen.ReferenceIdeal.Read
public import proofs.«01_k».proof.Proof.Scalar
public import Idealize.ShloMosaic.Lib.Pointwise

@[expose] public section

set_option maxRecDepth 16384

noncomputable section

namespace Cert.Proof.SB

open Idealize.ShloMosaic

/-! ## The projection's entries, and the sums both programs come to -/

/-- The entry of the projection at batch `b`, position `s` and column `c`. -/
def entry (x : (⟨3, ![8, 4096, 5120]⟩ : Shape).Idx → EReal) (b : Fin 8) (s c : ℕ) : EReal :=
  x (ix3 b ⟨s % 4096, Nat.mod_lt _ (by norm_num)⟩ ⟨c % 5120, Nat.mod_lt _ (by norm_num)⟩)

theorem entry_of (x : (⟨3, ![8, 4096, 5120]⟩ : Shape).Idx → EReal) (b : Fin 8) (s : Fin 4096) (c : Fin 5120) (s' c' : ℕ)
    (hs : s.val = s') (hc : c.val = c') : x (ix3 b s c) = entry x b s' c' := by
  subst hs hc
  unfold entry
  congr 1
  exact congrArg₂ (ix3 b) (Fin.ext (Nat.mod_eq_of_lt s.isLt).symm) (Fin.ext (Nat.mod_eq_of_lt c.isLt).symm)

/-- The score of query `t` against key `s` in head `h`: the scaled product of their 64 lanes. -/
def zat (x : (⟨3, ![8, 4096, 5120]⟩ : Shape).Idx → EReal) (b h : Fin 8) (t s : ℕ) : EReal :=
  (∑ e : Fin 64, entry x b t (1536 + 64 * h.val + e.val) * entry x b s (2048 + 64 * h.val + e.val)) * Ideal.ofBits .f32 0x3E000000#32

/-- Lane `e` of head `h`'s value at position `s`. -/
def vat (x : (⟨3, ![8, 4096, 5120]⟩ : Shape).Idx → EReal) (b h : Fin 8) (e : ℕ) (s : ℕ) : EReal := entry x b s (2560 + 64 * h.val + e)

namespace Ref

open Cert.ReferenceIdeal Cert.ReferenceIdeal.Gen Cert.ReferenceIdeal.Read

variable (x0 : (⟨S8x4096x5120, .bf16⟩ : BufTy).Contents (Elt Ideal)) (b h : Fin 8) (t s : Fin 4096) (e : Fin 64)

theorem q_apply : val_main_v5 (F := Ideal) x0 (ix4 b h t e) = entry x0 b t.val (1536 + 64 * h.val + e.val) := by
  pointwise [val_main_v5, val_main_v4, val_main_v1, val_main_v0]
  exact entry_of x0 _ _ _ _ _ rfl (by simp only; omega)

theorem k_apply : val_main_v7 (F := Ideal) x0 (ix4 b h t e) = entry x0 b t.val (2048 + 64 * h.val + e.val) := by
  pointwise [val_main_v7, val_main_v6, val_main_v2, val_main_v0]
  exact entry_of x0 _ _ _ _ _ rfl (by simp only; omega)

theorem v_apply : val_main_v9 (F := Ideal) x0 (ix4 b h t e) = vat x0 b h e.val t.val := by
  pointwise [val_main_v9, val_main_v8, val_main_v3, val_main_v0]
  exact entry_of x0 _ _ _ _ _ rfl (by simp only; omega)

theorem z_apply : val_main_v14 (F := Ideal) x0 (ix4 b h t s) = zat x0 b h t.val s.val := by
  pointwise [val_main_v14, val_main_v13, val_main_v12, val_main_cst]
  simp only [q_apply, k_apply]
  rfl

theorem sel_past (a c : EReal) :
    Scalar.select (IntOp.cmpi .slt (BitVec.ofNat 32 s.val) (BitVec.ofNat 32 t.val)) a c = if s.val < t.val then a else c := by
  rw [WordCmp.cmpi_slt_ofNat (by omega) (by omega), WordCmp.select_decide]

/-- The masked log-survivals. -/
theorem masked_apply : val_main_v22 (F := Ideal) x0 (ix4 b h t s) = if s.val < t.val then lk (zat x0 b h t.val s.val) else 0 := by
  pointwise [val_main_v22, val_main_call1_v1, val_main_call1_v2, val_main_v21, val_main_call0_v1, val_main_call0_call0_v4, val_main_call0_call0_v6,
    val_main_call0_call0_v11, val_main_call0_call0_v1, val_main_call0_call0_v10, val_main_call0_call0_v9, val_main_call0_call0_v8,
    val_main_call0_call0_v7, val_main_call0_call0_v3, val_main_call0_v0, val_main_v20, val_main_v19, val_main_v18, val_main_v17, val_main_v16,
    val_main_v15, val_main_v11, val_main_v10, val_main_call0_call0_v2, val_main_call0_call0_v0, val_main_call0_call0_cst,
    val_main_call0_call0_v5, val_main_call1_v0, val_main_cst_0]
  rw [if_neg (fun h => h rfl), sel_past, z_apply, ← lsg_neg]
  refine if_congr Iff.rfl rfl ?_
  exact Ideal.ofBits_zero_f32

theorem lsg_apply : val_main_v25 (F := Ideal) x0 (ix4 b h t s) = lsg (zat x0 b h t.val s.val) := by
  pointwise [val_main_v25, val_main_call3_v1, val_main_call3_call0_v4, val_main_call3_call0_v6,
    val_main_call3_call0_v11, val_main_call3_call0_v1, val_main_call3_call0_v10, val_main_call3_call0_v9, val_main_call3_call0_v8,
    val_main_call3_call0_v7, val_main_call3_call0_v3, val_main_call3_v0,
    val_main_call3_call0_v2, val_main_call3_call0_v0, val_main_call3_call0_cst, val_main_call3_call0_v5]
  rw [if_neg (fun h => h rfl), z_apply]
  rfl

/-- A fold of additions is the start plus the sum. -/
theorem foldl_add_eq {ι : Type} (l : List ι) (g : ι → EReal) : ∀ v : EReal, l.foldl (fun r n => r + g n) v = v + (l.map g).sum := by
  induction l with
  | nil => intro v; simp
  | cons a l ih => intro v; rw [List.foldl_cons, ih, List.map_cons, List.sum_cons, add_assoc]

/-- The windows' positions along the last axis. -/
abbrev Win : Shape := ⟨4, ![1, 1, 1, 4096]⟩

/-- A sum over a window of the last axis alone. -/
theorem sum_win (g : Win.Idx → EReal) (f : Fin 4096 → EReal) (hg : ∀ y : Win.Idx, g y = f (y 3)) : ∑ y, g y = ∑ w, f w := by
  refine Fintype.sum_bijective (fun y : Win.Idx => (y 3 : Fin 4096)) ⟨fun y y' hy => funext fun a => ?_, fun w => ⟨fun a => match a with
    | ⟨0, _⟩ => (0 : Fin 1) | ⟨1, _⟩ => (0 : Fin 1) | ⟨2, _⟩ => (0 : Fin 1) | ⟨3, _⟩ => w, rfl⟩⟩ _ _ hg
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact hy

/-- A sum over a window that starts at `s` is the sum over the positions from `s`. -/
theorem sum_from (f : Fin 4096 → EReal) : (∑ w : Fin 4096, if hw : s.val + w.val < 4096 then f ⟨s.val + w.val, hw⟩ else 0)
    = ∑ u : Fin 4096, if s.val ≤ u.val then f u else 0 := by
  rw [← Finset.sum_filter]
  have h1 : (∑ w : Fin 4096, if hw : s.val + w.val < 4096 then f ⟨s.val + w.val, hw⟩ else 0)
      = ∑ w ∈ Finset.univ.filter (fun w : Fin 4096 => s.val + w.val < 4096), f ⟨(s.val + w.val) % 4096, Nat.mod_lt _ (by norm_num)⟩ := by
    rw [Finset.sum_filter]
    refine Finset.sum_congr rfl fun w _ => ?_
    by_cases hw : s.val + w.val < 4096
    · rw [dif_pos hw, if_pos hw]
      exact congrArg f (Fin.ext (Nat.mod_eq_of_lt hw).symm)
    · rw [dif_neg hw, if_neg hw]
  rw [h1]
  refine Finset.sum_bij (fun w _ => ⟨(s.val + w.val) % 4096, Nat.mod_lt _ (by norm_num)⟩) ?_ ?_ ?_ fun _ _ => rfl
  · intro w hw; simp only [Finset.mem_filter, Finset.mem_univ, true_and] at hw ⊢; omega
  · intro w hw w' hw' he
    simp only [Finset.mem_filter, Finset.mem_univ, true_and] at hw hw'
    have := congrArg Fin.val he
    simp only at this
    ext; omega
  · intro u hu
    simp only [Finset.mem_filter, Finset.mem_univ, true_and] at hu
    exact ⟨⟨u.val - s.val, by omega⟩, by simp only [Finset.mem_filter, Finset.mem_univ, true_and]; omega, Fin.ext (by simp only; omega)⟩

/-- A window's position is inside the array. -/
abbrev Inside (p : Win.Idx) : Prop :=
  ∀ a : Fin 4, (![0, 0, 0, 0] : Fin 4 → ℕ) a ≤ ((ix4 b h t s : S8x8x4096x4096.Idx) a).val * (![1, 1, 1, 1] : Fin 4 → ℕ) a + (p a).val
      ∧ ((ix4 b h t s : S8x8x4096x4096.Idx) a).val * (![1, 1, 1, 1] : Fin 4 → ℕ) a + (p a).val - (![0, 0, 0, 0] : Fin 4 → ℕ) a < S8x8x4096x4096.size a

/-- A window's entry: the array's where the position is inside it, else nothing. -/
theorem win_entry (y : S8x8x4096x4096.Idx → EReal) (p : Win.Idx) {inst : Decidable (Inside b h t s p)} :
    (if hin : Inside b h t s p then
        y (fun a => ⟨((ix4 b h t s : S8x8x4096x4096.Idx) a).val * (![1, 1, 1, 1] : Fin 4 → ℕ) a + (p a).val - (![0, 0, 0, 0] : Fin 4 → ℕ) a, (hin a).2⟩)
      else (0 : EReal))
    = if hw : s.val + (p 3).val < 4096 then y (ix4 b h t ⟨s.val + (p 3).val, hw⟩) else 0 := by
  have p0 : (p 0).val = 0 := Nat.lt_one_iff.1 (p 0).isLt
  have p1 : (p 1).val = 0 := Nat.lt_one_iff.1 (p 1).isLt
  have p2 : (p 2).val = 0 := Nat.lt_one_iff.1 (p 2).isLt
  by_cases hw : s.val + (p 3).val < 4096
  · rw [dif_pos hw, dif_pos]
    · refine congrArg y (funext fun a => Fin.ext ?_)
      match a with
      | ⟨0, _⟩ => exact show b.val * 1 + (p 0).val - 0 = b.val by omega
      | ⟨1, _⟩ => exact show h.val * 1 + (p 1).val - 0 = h.val by omega
      | ⟨2, _⟩ => exact show t.val * 1 + (p 2).val - 0 = t.val by omega
      | ⟨3, _⟩ => exact show s.val * 1 + (p 3).val - 0 = s.val + (p 3).val by omega
    · intro a
      match a with
      | ⟨0, _⟩ => exact show 0 ≤ _ ∧ b.val * 1 + (p 0).val - 0 < 8 by omega
      | ⟨1, _⟩ => exact show 0 ≤ _ ∧ h.val * 1 + (p 1).val - 0 < 8 by omega
      | ⟨2, _⟩ => exact show 0 ≤ _ ∧ t.val * 1 + (p 2).val - 0 < 4096 by omega
      | ⟨3, _⟩ => exact show 0 ≤ _ ∧ s.val * 1 + (p 3).val - 0 < 4096 by omega
  · rw [dif_neg hw, dif_neg]
    intro hin
    have h3 : s.val * 1 + (p 3).val - 0 < 4096 := (hin 3).2
    omega

/-- The sums of the masked log-survivals from a position on. -/
theorem after_apply : val_main_v23 (F := Ideal) x0 (ix4 b h t s)
    = ∑ u : Fin 4096, if s.val ≤ u.val then val_main_v22 (F := Ideal) x0 (ix4 b h t u) else 0 := by
  rw [← sum_from s (fun u => val_main_v22 (F := Ideal) x0 (ix4 b h t u))]
  unfold val_main_v23 Host.reduceWindowAdd
  rw [Ideal.hostReduceWindowAdd_def]
  unfold Ideal.hostReduceWindowAdd Host.reduceWindow
  have hv : val_main_call2_v0 (F := Ideal) (Shape.Idx.first h_S_) = (0 : EReal) := by
    unfold val_main_call2_v0 val_main_call2_cst
    exact Ideal.ofBits_zero_f32
  rw [hv]
  generalize val_main_v22 (F := Ideal) x0 = y
  refine (foldl_add_eq _ _ _).trans ((zero_add _).trans ?_)
  rw [← Fin.sum_univ_def]
  refine (Fintype.sum_equiv (Shape.rowMajor Win).symm _
    (fun p => if hw : s.val + (p 3).val < 4096 then y (ix4 b h t ⟨s.val + (p 3).val, hw⟩) else 0) fun n => ?_).trans (sum_win _ _ fun _ => rfl)
  exact win_entry b h t s y ((Shape.rowMajor Win).symm n)

/-- One head's result. -/
theorem head_apply : val_main_v29 (F := Ideal) x0 (ix4 b h t e) = tot (zat x0 b h t.val) (vat x0 b h e.val) 0 t.val := by
  pointwise [val_main_v29, val_main_v28, val_main_call4_v1, val_main_call4_v2, val_main_v27, val_main_v26, val_main_v24,
    val_main_v19, val_main_v18, val_main_v17, val_main_v16, val_main_v15, val_main_v11, val_main_v10, val_main_call4_v0, val_main_cst_1]
  simp only [sel_past, lsg_apply, after_apply, masked_apply, v_apply]
  have h0 : (id (constant (F := Ideal) S_ FTy.f32 0#32) ix0 : EReal) = 0 := Ideal.ofBits_zero_f32
  rw [h0]
  exact row_eq (zat x0 b h t.val) (vat x0 b h e.val) t

/-- The reference's result. -/
theorem res_apply (c : Fin 512) : val_main_v32 (F := Ideal) x0 (ix3 b t c)
    = tot (zat x0 b ⟨c.val / 64, by omega⟩ t.val) (vat x0 b ⟨c.val / 64, by omega⟩ (c.val % 64)) 0 t.val := by
  have h := head_apply x0 b ⟨c.val / 64, by omega⟩ t ⟨c.val % 64, Nat.mod_lt _ (by norm_num)⟩
  rw [← h]
  pointwise [val_main_v32, val_main_v31, val_main_v30]

end Ref

end Cert.Proof.SB

end
-- ==== Proof.Tile.lean ====
/-
  One tile at the extended reals: what the diagonal tile and a later trip leave in the running state, at an index.
-/
module

public import proofs.«01_k».proof.Proof.Run
public import proofs.«01_k».proof.Proof.Scalar
public import Idealize.ShloMosaic.Lib.Pointwise

@[expose] public section

set_option maxRecDepth 16384

noncomputable section

namespace Cert.Proof.SB

open Cert.KernelIdeal Cert.KernelIdeal.Gen
open Idealize.ShloMosaic

/-- The score of query row `r` against key row `y` in head `h` of the pair: the other head's lanes add zero. -/
def score (h : Fin 2) (q kt : Vec Ideal S1x256x128 .bf16) (r y : Fin 256) : EReal :=
  ∑ x : Fin 128, if x.val / 64 = h.val then
    ((q (ix3 0 r x) : EReal) * Ideal.ofBits .f32 0x3E000000#32 * (kt (ix3 0 y x) : EReal)) else 0

/-- A choice by the order of two positions of a tile, -/
theorem sel_lt (x y : Fin 256) (a b : EReal) :
    Scalar.select (IntOp.cmpi .slt (BitVec.ofNat 32 x.val) (BitVec.ofNat 32 y.val)) a b = if x.val < y.val then a else b := by
  rw [WordCmp.cmpi_slt_ofNat (by omega) (by omega), WordCmp.select_decide]

theorem sel_gt (x y : Fin 256) (a b : EReal) :
    Scalar.select (IntOp.cmpi .sgt (BitVec.ofNat 32 x.val) (BitVec.ofNat 32 y.val)) a b = if y.val < x.val then a else b := by
  rw [WordCmp.cmpi_sgt_ofNat (by omega) (by omega), WordCmp.select_decide]

/-- a choice by the first head's lanes, -/
theorem sel_head0 (x : Fin 128) (a b : EReal) :
    Scalar.select (IntOp.cmpi .slt (BitVec.ofNat 32 x.val) 64#32) a b = if x.val / 64 = (0 : Fin 2).val then a else b := by
  rw [WordCmp.cmpi_slt_ofNat (by omega) (by omega), WordCmp.select_decide]
  exact if_congr (by simp only [Fin.val_zero]; omega) rfl rfl

/-- and by the second head's. -/
theorem sel_head1 (x : Fin 128) (a b : EReal) :
    Scalar.select (IntOp.cmpi .slt (BitVec.ofNat 32 x.val) 64#32) a b = if x.val / 64 = (1 : Fin 2).val then b else a := by
  rw [WordCmp.cmpi_slt_ofNat (by omega) (by omega), WordCmp.select_decide, ← ite_not]
  exact if_congr (by simp only [Fin.val_one]; omega) rfl rfl

variable (q kt vt : Vec Ideal S1x256x128 .bf16) (s : St Ideal) (r : Fin 256) (d : Fin 128)

/-! ## Scores, log-survivals and masks -/

theorem score0_diag (y : Fin 256) : k0_pay16 q kt (ix2 r y) = score 0 q kt r y := by
  pointwise [k0_pay16, k0_pay12, k0_pay14, k0_pay9, k0_pay10, k0_pay11]
  simp only [sel_head0]
  rfl

theorem score1_diag (y : Fin 256) : k0_pay25 (k0_pay13 q) (k0_pay14 kt) (ix2 r y) = score 1 q kt r y := by
  pointwise [k0_pay25, k0_pay13, k0_pay14, k0_pay9, k0_pay10, k0_pay11]
  simp only [sel_head1]
  rfl

theorem score0_past (y : Fin 256) : k0_pay35 (k0_pay12 q) kt (ix2 r y) = score 0 q kt r y := by
  pointwise [k0_pay35, k0_pay12, k0_pay33, k0_pay9, k0_pay10, k0_pay11]
  simp only [sel_head0]
  rfl

theorem score1_past (y : Fin 256) : k0_pay43 (k0_pay13 q) (k0_pay33 kt) (ix2 r y) = score 1 q kt r y := by
  pointwise [k0_pay43, k0_pay13, k0_pay33, k0_pay9, k0_pay10, k0_pay11]
  simp only [sel_head1]
  rfl

theorem lk0_diag (y : Fin 256) : k0_pay19 (k0_pay17 q kt) (k0_pay18 q kt) (1 : EReal) (ix2 r y) = lk (score 0 q kt r y) := by
  pointwise [k0_pay19, k0_pay17, k0_pay18]
  rw [score0_diag]
  rfl

theorem lk1_diag (y : Fin 256) : k0_pay27 (k0_pay25 (k0_pay13 q) (k0_pay14 kt)) k0_pay26 (ix2 r y) = lk (score 1 q kt r y) := by
  pointwise [k0_pay27, k0_pay26]
  rw [score1_diag]
  rfl

theorem lk0_past (y : Fin 256) : k0_pay36 (k0_pay12 q) kt (ix2 r y) = lk (score 0 q kt r y) := by
  pointwise [k0_pay36]
  rw [score0_past]
  rfl

theorem lk1_past (y : Fin 256) : k0_pay44 (k0_pay13 q) (k0_pay33 kt) (ix2 r y) = lk (score 1 q kt r y) := by
  pointwise [k0_pay44]
  rw [score1_past]
  rfl

/-- The causal mask. -/
theorem mask_apply (y : Fin 256) : k0_pay7 (ix2 r y) = IntOp.cmpi .slt (BitVec.ofNat 32 y.val) (BitVec.ofNat 32 r.val) := by
  pointwise [k0_pay7]

/-- The masked log-survivals of the diagonal tile. -/
theorem masked0 (y : Fin 256) : k0_pay20 k0_pay7 (k0_pay17 q kt) (k0_pay18 q kt) (1 : EReal) (ix2 r y)
    = if y.val < r.val then lk (score 0 q kt r y) else 0 := by
  pointwise [k0_pay20]
  rw [lk0_diag, mask_apply, sel_lt]

theorem masked1 (y : Fin 256) : k0_pay28 k0_pay7 (k0_pay25 (k0_pay13 q) (k0_pay14 kt)) k0_pay26 (ix2 r y)
    = if y.val < r.val then lk (score 1 q kt r y) else 0 := by
  pointwise [k0_pay28]
  rw [lk1_diag, mask_apply, sel_lt]

theorem masked_ne_top (h : Fin 2) (u : Fin 256) : (if u.val < r.val then lk (score h q kt r u) else 0) ≠ ⊤ := by
  split_ifs
  · exact lk_ne_top _
  · exact EReal.zero_ne_top

/-! ## The diagonal tile -/

theorem start_c0 : (start q kt vt).c0 (ix3 0 r 0) = ∑ y : Fin 256, if y.val < r.val then lk (score 0 q kt r y) else 0 := by
  simp only [start]
  pointwise [k0_pay22, k0_pay21]
  simp only [masked0]

theorem start_c1 : (start q kt vt).c1 (ix3 0 r 0) = ∑ y : Fin 256, if y.val < r.val then lk (score 1 q kt r y) else 0 := by
  simp only [start]
  pointwise [k0_pay30, k0_pay29]
  simp only [masked1]

theorem start_a0 : (start q kt vt).a0 (ix3 0 r d) = ∑ y : Fin 256, (if y.val < r.val then
    Ideal.exp (score 0 q kt r y + lk (score 0 q kt r y)
      + ∑ u : Fin 256, if y.val < u.val then (if u.val < r.val then lk (score 0 q kt r u) else 0) else 0) else 0) * vt (ix3 0 y d) := by
  simp only [start]
  pointwise [k0_pay23, k0_pay15, k0_pay8]
  simp only [mask_apply, sel_lt, ite_mul, zero_mul, sel_gt, masked0, score0_diag, lk0_diag, sum_parts _ _ (masked_ne_top q kt r 0)]

theorem start_a1 : (start q kt vt).a1 (ix3 0 r d) = ∑ y : Fin 256, (if y.val < r.val then
    Ideal.exp (score 1 q kt r y + lk (score 1 q kt r y)
      + ∑ u : Fin 256, if y.val < u.val then (if u.val < r.val then lk (score 1 q kt r u) else 0) else 0) else 0) * vt (ix3 0 y d) := by
  simp only [start]
  pointwise [k0_pay31, k0_pay15, k0_pay8]
  simp only [mask_apply, sel_lt, ite_mul, zero_mul, sel_gt, masked1, score1_diag, lk1_diag, sum_parts _ _ (masked_ne_top q kt r 1)]

/-- The largest entry of the two columns is above every entry of both. -/
theorem worst_diag (m : IVec S256x256 1) (a b e f : FVec Ideal S256x256 .f32) (o : Ideal .f32) :
    k0_pay22 m a b o (ix3 0 r 0) ≤ k0_pay1 (k0_pay24 m a b o) (k0_pay32 m e f)
    ∧ k0_pay30 m e f (ix3 0 r 0) ≤ k0_pay1 (k0_pay24 m a b o) (k0_pay32 m e f) := by
  pointwise [k0_pay1, k0_pay24, k0_pay32, k0_pay22, k0_pay30]
  exact ⟨le_max_of_le_left ((Finset.le_fold_max _).2 (Or.inr ⟨(r, 0), Finset.mem_univ _, le_rfl⟩)),
    le_max_of_le_right ((Finset.le_fold_max _).2 (Or.inr ⟨(r, 0), Finset.mem_univ _, le_rfl⟩))⟩

theorem start_worst : (start q kt vt).c0 (ix3 0 r 0) ≤ (start q kt vt).worst ∧ (start q kt vt).c1 (ix3 0 r 0) ≤ (start q kt vt).worst :=
  worst_diag r _ _ _ _ _ _

/-! ## A trip over a tile wholly in the past -/

theorem trip_c0 : (trip q kt vt s).c0 (ix3 0 r 0) = s.c0 (ix3 0 r 0) + ∑ y : Fin 256, lk (score 0 q kt r y) := by
  simp only [trip]
  pointwise [k0_pay40, k0_pay39, k0_pay37]
  simp only [lk0_past]

theorem trip_c1 : (trip q kt vt s).c1 (ix3 0 r 0) = s.c1 (ix3 0 r 0) + ∑ y : Fin 256, lk (score 1 q kt r y) := by
  simp only [trip]
  pointwise [k0_pay4, k0_pay3, k0_pay45]
  simp only [lk1_past]

theorem trip_a0 : (trip q kt vt s).a0 (ix3 0 r d) = s.a0 (ix3 0 r d) + ∑ y : Fin 256,
    Ideal.exp (score 0 q kt r y + lk (score 0 q kt r y) + (∑ u : Fin 256, if y.val < u.val then lk (score 0 q kt r u) else 0)
      + s.c0 (ix3 0 r 0)) * vt (ix3 0 y d) := by
  simp only [trip]
  pointwise [k0_pay41, k0_pay38, k0_pay37, k0_pay34, k0_pay8]
  simp only [sel_gt, score0_past, lk0_past, sum_parts _ _ (fun u => lk_ne_top (score 0 q kt r u))]

theorem trip_a1 : (trip q kt vt s).a1 (ix3 0 r d) = s.a1 (ix3 0 r d) + ∑ y : Fin 256,
    Ideal.exp (score 1 q kt r y + lk (score 1 q kt r y) + (∑ u : Fin 256, if y.val < u.val then lk (score 1 q kt r u) else 0)
      + s.c1 (ix3 0 r 0)) * vt (ix3 0 y d) := by
  simp only [trip]
  pointwise [k0_pay5, k0_pay46, k0_pay47, k0_pay45, k0_pay34, k0_pay8]
  simp only [sel_gt, score1_past, lk1_past, sum_parts _ _ (fun u => lk_ne_top (score 1 q kt r u))]

theorem trip_worst : (trip q kt vt s).c0 (ix3 0 r 0) ≤ (trip q kt vt s).worst ∧ (trip q kt vt s).c1 (ix3 0 r 0) ≤ (trip q kt vt s).worst := by
  simp only [trip]
  pointwise [k0_pay6, k0_pay42, k0_pay4, k0_pay3, k0_pay40]
  exact ⟨le_max_of_le_left ((Finset.le_fold_max _).2 (Or.inr ⟨(r, 0), Finset.mem_univ _, le_rfl⟩)),
    le_max_of_le_right ((Finset.le_fold_max _).2 (Or.inr ⟨(r, 0), Finset.mem_univ _, le_rfl⟩))⟩

/-! ## The result's block -/

theorem out_apply (a0 a1 : Vec Ideal S1x256x128 .f32) : k0_pay2 a0 a1 (ix3 0 r d) = if d.val / 64 = 0 then a0 (ix3 0 r d) else a1 (ix3 0 r d) := by
  pointwise [k0_pay2, k0_pay10]
  simp only [sel_head0]
  rfl

end Cert.Proof.SB

end
-- ==== Proof.Loop.lean ====
/-
  The loop over the tiles at the extended reals: each row's column entry and weighted values are the sums over the
  row's past, whether or not the loop stops early.
-/
module

public import proofs.«01_k».proof.Proof.Tile

@[expose] public section

noncomputable section

namespace Cert.Proof.SB

open Cert.KernelIdeal Cert.KernelIdeal.Gen
open Idealize.ShloMosaic

variable (q : Vec Ideal S1x256x128 .bf16) (x4 x5 : Vec Ideal S1x4096x128 .bf16)

/-- Row `r`'s score at position `p` of the sequence, in head `h` of the pair. -/
def zs (h : Fin 2) (r : Fin 256) (p : ℕ) : EReal := score h q (tile x4 (p / 256)) r ⟨p % 256, Nat.mod_lt _ (by norm_num)⟩

/-- Lane `d` of the value at position `p`. -/
def vs (d : Fin 128) (p : ℕ) : EReal := tile x5 (p / 256) (ix3 0 ⟨p % 256, Nat.mod_lt _ (by norm_num)⟩ d)

theorem zs_tile (h : Fin 2) (r : Fin 256) (k : ℕ) (y : Fin 256) : zs q x4 h r (256 * k + y.val) = score h q (tile x4 k) r y := by
  unfold zs
  have h1 : (256 * k + y.val) / 256 = k := by omega
  have h2 : (⟨(256 * k + y.val) % 256, Nat.mod_lt _ (by norm_num)⟩ : Fin 256) = y := Fin.ext (by simp only; omega)
  rw [h1, h2]

theorem vs_tile (d : Fin 128) (k : ℕ) (y : Fin 256) : vs x5 d (256 * k + y.val) = tile x5 k (ix3 0 y d) := by
  unfold vs
  have h1 : (256 * k + y.val) / 256 = k := by omega
  have h2 : (⟨(256 * k + y.val) % 256, Nat.mod_lt _ (by norm_num)⟩ : Fin 256) = y := Fin.ext (by simp only; omega)
  rw [h1, h2]

/-- What one head's column and weighted values hold once the tiles from `k` to the diagonal tile `n` are in. -/
structure HeadInv (h : Fin 2) (n k : ℕ) (c : Vec Ideal S1x256x1 .f32) (a : Vec Ideal S1x256x128 .f32) : Prop where
  col : ∀ r : Fin 256, c (ix3 0 r 0) = surv (fun u => lk (zs q x4 h r u)) (256 * k) (256 * n + r.val)
  acc : ∀ (r : Fin 256) (d : Fin 128), a (ix3 0 r d) = tot (zs q x4 h r) (vs x5 d) (256 * k) (256 * n + r.val)

/-- The state once the tiles from `k` to the diagonal tile `n` are in. -/
structure Inv (n k : ℕ) (s : St Ideal) : Prop where
  head0 : HeadInv q x4 x5 0 n k s.c0 s.a0
  head1 : HeadInv q x4 x5 1 n k s.c1 s.a1
  worst : ∀ r : Fin 256, s.c0 (ix3 0 r 0) ≤ s.worst ∧ s.c1 (ix3 0 r 0) ≤ s.worst

/-- The diagonal tile sets the state up. -/
theorem inv_start (n : ℕ) : Inv q x4 x5 n n (start q (tile x4 n) (tile x5 n)) where
  head0 := ⟨fun r => by rw [start_c0, surv_diag]; simp only [zs_tile],
    fun r d => by rw [start_a0, tot_diag]; simp only [zs_tile, vs_tile]⟩
  head1 := ⟨fun r => by rw [start_c1, surv_diag]; simp only [zs_tile],
    fun r d => by rw [start_a1, tot_diag]; simp only [zs_tile, vs_tile]⟩
  worst := start_worst q _ _

/-- A trip brings one more tile in. -/
theorem inv_trip (n k : ℕ) (hk : k < n) (s : St Ideal) (hs : Inv q x4 x5 n (k + 1) s) :
    Inv q x4 x5 n k (trip q (tile x4 k) (tile x5 k) s) where
  head0 := ⟨fun r => by
      rw [trip_c0, hs.head0.col, surv_tile _ k _ (by omega)]; simp only [zs_tile],
    fun r d => by
      rw [trip_a0, hs.head0.acc, hs.head0.col, tot_tile _ _ k _ (by omega)]; simp only [zs_tile, vs_tile]⟩
  head1 := ⟨fun r => by
      rw [trip_c1, hs.head1.col, surv_tile _ k _ (by omega)]; simp only [zs_tile],
    fun r d => by
      rw [trip_a1, hs.head1.acc, hs.head1.col, tot_tile _ _ k _ (by omega)]; simp only [zs_tile, vs_tile]⟩
  worst := trip_worst q _ _ s

/-- The exit bound is `-∞`. -/
theorem exit_eq : (Named.named κ "exit" 0xC2DC0000#32 : Ideal .f32) = (⊥ : EReal) := rfl

/-- When the loop stops, no entry of the columns is above `-∞`. -/
theorem le_of_stop (w : EReal) (h : ¬Scalar.cmpf (F := Ideal) (φ := .f32) .ogt w (Named.named κ "exit" 0xC2DC0000#32 : Ideal .f32) = 1#1) : w = ⊥ := by
  by_contra hw
  refine h ?_
  rw [exit_eq]
  have : (⊥ : EReal) < w := bot_lt_iff_ne_bot.2 hw
  simp [Ideal.cmp, this]

/-- A head's weighted values are complete once every column entry is `-∞`. -/
theorem complete (h : Fin 2) (n k : ℕ) (hk : k ≤ n) (c : Vec Ideal S1x256x1 .f32) (a : Vec Ideal S1x256x128 .f32)
    (hi : HeadInv q x4 x5 h n k c a) (hc : ∀ r : Fin 256, c (ix3 0 r 0) = (⊥ : EReal)) (r : Fin 256) (d : Fin 128) :
    a (ix3 0 r d) = tot (zs q x4 h r) (vs x5 d) 0 (256 * n + r.val) := by
  rw [hi.acc, tot_of_surv_bot _ _ (256 * k) _ (by have := Nat.mul_le_mul_left 256 hk; omega)]
  rw [← hi.col, hc]

/-- The loop leaves every row's weighted values summed over its whole past. -/
theorem loop_acc (n : ℕ) : ∀ (k : ℕ) (_ : k ≤ n) (s : St Ideal) (_ : Inv q x4 x5 n k s) (r : Fin 256) (d : Fin 128),
    (loop q x4 x5 k s).a0 (ix3 0 r d) = tot (zs q x4 0 r) (vs x5 d) 0 (256 * n + r.val)
    ∧ (loop q x4 x5 k s).a1 (ix3 0 r d) = tot (zs q x4 1 r) (vs x5 d) 0 (256 * n + r.val)
  | 0, _, s, hs, r, d => ⟨hs.head0.acc r d, hs.head1.acc r d⟩
  | k + 1, hk, s, hs, r, d => by
    rw [loop]
    split_ifs with hw
    · exact loop_acc n k (by omega) _ (inv_trip q x4 x5 n k (by omega) s hs) r d
    · have hb := le_of_stop _ hw
      exact ⟨complete q x4 x5 0 n (k + 1) hk _ _ hs.head0 (fun r => le_bot_iff.1 ((hs.worst r).1.trans hb.le)) r d,
        complete q x4 x5 1 n (k + 1) hk _ _ hs.head1 (fun r => le_bot_iff.1 ((hs.worst r).2.trans hb.le)) r d⟩

/-- What one grid point leaves in the result's block, at an index. -/
theorem outAt_apply (i : grid0.Coords) (r : Fin 256) (d : Fin 128) : outAt i q x4 x5 (ix3 0 r d)
    = tot (zs q x4 ⟨d.val / 64, by omega⟩ r) (vs x5 d) 0 (256 * (i 2).val + r.val) := by
  have h := loop_acc q x4 x5 (i 2).val (i 2).val le_rfl _ (inv_start q x4 x5 (i 2).val) r d
  unfold outAt
  rw [out_apply, h.1, h.2]
  split_ifs with h0
  · exact congrArg (fun j => tot (zs q x4 j r) _ _ _) (Fin.ext (by simp only [Fin.val_zero]; omega))
  · exact congrArg (fun j => tot (zs q x4 j r) _ _ _) (Fin.ext (by simp only [Fin.val_one]; omega))

end Cert.Proof.SB

end
-- ==== Proof.Value.lean ====
/-
  The stick-breaking call's array: block by block, the reference's entries.
-/
module

public import proofs.«01_k».proof.Proof.Body
public import proofs.«01_k».proof.Proof.Loop
public import proofs.«01_k».proof.Proof.Ref
public import Idealize.ShloMosaic.Lib.Pipeline.ValueKit

@[expose] public section

set_option maxRecDepth 16384

noncomputable section

namespace Cert.Proof.SB

open Cert.KernelIdeal Cert.KernelIdeal.Gen

open Idealize.ShloMosaic
open Idealize.ShloMosaic.TcCoe Idealize.SL.Sem
open Idealize.ShloMosaic.Pipeline (Dat)

variable (m : (ℓ : Loc nD τ sig) → Buf (Elt Ideal) ℓ)

/-- The windows' blocks at every point. -/
theorem idx : ∀ t : Fin (cfg0 (F := Ideal)).N,
    win0_0.index t = ![t.val / 16 % 8, t.val % 16, 12 + t.val / 128] ∧ win0_1.index t = ![t.val / 16 % 8, 0, 16 + t.val / 128]
    ∧ win0_2.index t = ![t.val / 16 % 8, 0, 20 + t.val / 128] ∧ win0_3.index t = ![t.val / 16 % 8, t.val % 16, t.val / 128]
    ∧ (grid0.coords t 2).val = t.val % 16 :=
  (by decide +kernel : ∀ t : Fin grid0.N, _)

/-- The projection. -/
abbrev X (c : Dev nD) : (⟨3, ![8, 4096, 5120]⟩ : Shape).Idx → EReal := m ((c : Thread nD τ).loc main_arg0)

/-- The batch of a point. -/
def bat (t : Fin (cfg0 (F := Ideal)).N) : Fin 8 := ⟨t.val / 16 % 8, Nat.mod_lt _ (by norm_num)⟩

theorem pt_lt (t : Fin (cfg0 (F := Ideal)).N) : t.val < 512 := lt_of_lt_of_eq t.isLt (by decide +kernel)

theorem q_read (c : Dev nD) (t : Fin (cfg0 (F := Ideal)).N) (r : Fin 256) (x : Fin 128) :
    (show Vec Ideal S1x256x128 .bf16 from iblk m c 0 t) (ix3 0 r x) = entry (X m c) (bat t) (256 * (t.val % 16) + r.val) (128 * (12 + t.val / 128) + x.val) := by
  have ht := pt_lt t
  refine Eq.trans (b := X m c (ix3 (bat t) ⟨256 * (t.val % 16) + r.val, by omega⟩ ⟨128 * (12 + t.val / 128) + x.val, by omega⟩)) ?_
    (entry_of _ _ _ _ _ _ rfl rfl)
  unfold bat
  blk_ext [iblk, V, idx t]

theorem k_read (c : Dev nD) (t : Fin (cfg0 (F := Ideal)).N) (s : Fin 4096) (x : Fin 128) :
    (show Vec Ideal S1x4096x128 .bf16 from iblk m c 1 t) (ix3 0 s x) = entry (X m c) (bat t) s.val (128 * (16 + t.val / 128) + x.val) := by
  have ht := pt_lt t
  refine Eq.trans (b := X m c (ix3 (bat t) s ⟨128 * (16 + t.val / 128) + x.val, by omega⟩)) ?_ (entry_of _ _ _ _ _ _ rfl rfl)
  unfold bat
  blk_ext [iblk, V, idx t]

theorem v_read (c : Dev nD) (t : Fin (cfg0 (F := Ideal)).N) (s : Fin 4096) (x : Fin 128) :
    (show Vec Ideal S1x4096x128 .bf16 from iblk m c 2 t) (ix3 0 s x) = entry (X m c) (bat t) s.val (128 * (20 + t.val / 128) + x.val) := by
  have ht := pt_lt t
  refine Eq.trans (b := X m c (ix3 (bat t) s ⟨128 * (20 + t.val / 128) + x.val, by omega⟩)) ?_ (entry_of _ _ _ _ _ _ rfl rfl)
  unfold bat
  blk_ext [iblk, V, idx t]

/-- A tile's row is the sequence's. -/
theorem tile_read (x : Vec Ideal S1x4096x128 .bf16) (p : ℕ) (hp : p < 4096) (d : Fin 128) :
    tile x (p / 256) (ix3 0 ⟨p % 256, Nat.mod_lt _ (by norm_num)⟩ d) = x (ix3 0 ⟨p, hp⟩ d) := by
  refine congrArg x (funext fun a => Fin.ext ?_)
  match a with
  | ⟨0, _⟩ => rfl
  | ⟨1, _⟩ => exact show (256 * (p / 256) + p % 256) % 4096 = p by omega
  | ⟨2, _⟩ => exact show (0 + d.val) % 128 = d.val by omega

/-- The head of a lane of a point's block. -/
def hd (t : Fin (cfg0 (F := Ideal)).N) (h : Fin 2) : Fin 8 := ⟨2 * (t.val / 128) + h.val, by have := pt_lt t; omega⟩

/-- The scores of a point's rows are the reference's. -/
theorem zs_eq (c : Dev nD) (t : Fin (cfg0 (F := Ideal)).N) (h : Fin 2) (r : Fin 256) (p : ℕ) (hp : p < 4096) :
    zs (show Vec Ideal S1x256x128 .bf16 from iblk m c 0 t) (show Vec Ideal S1x4096x128 .bf16 from iblk m c 1 t) h r p
      = zat (X m c) (bat t) (hd t h) (256 * (t.val % 16) + r.val) p := by
  unfold zs score zat
  simp only [tile_read _ p hp, q_read, k_read]
  rw [sum_lanes (fun x => entry (X m c) (bat t) (256 * (t.val % 16) + r.val) (128 * (12 + t.val / 128) + x.val) * Ideal.ofBits .f32 0x3E000000#32
    * entry (X m c) (bat t) p (128 * (16 + t.val / 128) + x.val)) h]
  rw [ofBits_eighth, sum_mul_coe _ _ (by norm_num)]
  refine Finset.sum_congr rfl fun e _ => ?_
  rw [mul_right_comm]
  unfold hd
  simp only
  have h1 : 128 * (12 + t.val / 128) + (64 * h.val + e.val) = 1536 + 64 * (2 * (t.val / 128) + h.val) + e.val := by omega
  have h2 : 128 * (16 + t.val / 128) + (64 * h.val + e.val) = 2048 + 64 * (2 * (t.val / 128) + h.val) + e.val := by omega
  rw [h1, h2]

/-- The values of a point's rows are the reference's. -/
theorem vs_eq (c : Dev nD) (t : Fin (cfg0 (F := Ideal)).N) (d : Fin 128) (p : ℕ) (hp : p < 4096) :
    vs (show Vec Ideal S1x4096x128 .bf16 from iblk m c 2 t) d p
      = vat (X m c) (bat t) (hd t ⟨d.val / 64, by omega⟩) (d.val % 64) p := by
  unfold vs vat
  rw [tile_read _ p hp]
  refine (v_read m c t ⟨p, hp⟩ d).trans (congrArg (entry (X m c) (bat t) p) ?_)
  unfold hd
  simp only
  omega

/-- Sums over a row's past agree when the scores and the values do. -/
theorem tot_congr {z z' v v' : ℕ → EReal} {n : ℕ} (hz : ∀ p, p < n → z p = z' p) (hv : ∀ p, p < n → v p = v' p) : tot z v 0 n = tot z' v' 0 n := by
  unfold tot surv
  refine Finset.sum_congr rfl fun s hs => ?_
  have hs' := (Finset.mem_Ico.1 hs).2
  rw [hz s hs', hv s hs', Finset.sum_congr rfl fun u hu => congrArg lk (hz u (Finset.mem_Ico.1 hu).2)]

/-- The result's entry. -/
def res (x : (⟨3, ![8, 4096, 5120]⟩ : Shape).Idx → EReal) (b : Fin 8) (t : ℕ) (c : Fin 512) : EReal :=
  tot (zat x b ⟨c.val / 64, by omega⟩ t) (vat x b ⟨c.val / 64, by omega⟩ (c.val % 64)) 0 t

/-- What a point leaves in its block. -/
theorem point (c : Dev nD) (t : Fin (cfg0 (F := Ideal)).N) (r : Fin 256) (d : Fin 128) :
    outAt (F := Ideal) (grid0.coords t) (iblk m c 0 t) (iblk m c 1 t) (iblk m c 2 t) (ix3 0 r d)
      = res (X m c) (bat t) (256 * (t.val % 16) + r.val) ⟨128 * (t.val / 128) + d.val, by have := pt_lt t; omega⟩ := by
  have ht := pt_lt t
  refine (outAt_apply _ _ _ _ r d).trans ?_
  rw [(idx t).2.2.2.2]
  have hn : 256 * (t.val % 16) + r.val < 4096 := by omega
  refine (tot_congr (fun p hp => zs_eq m c t _ r p (by omega)) (fun p hp => vs_eq m c t d p (by omega))).trans ?_
  have h1 : hd t ⟨d.val / 64, by omega⟩ = ⟨(128 * (t.val / 128) + d.val) / 64, by omega⟩ := Fin.ext (by unfold hd; simp only; omega)
  have h2 : d.val % 64 = (128 * (t.val / 128) + d.val) % 64 := by omega
  exact congrArg₂ (fun h e => tot (zat (X m c) (bat t) h (256 * (t.val % 16) + r.val)) (vat (X m c) (bat t) h e) 0 (256 * (t.val % 16) + r.val)) h1 h2

/-- The reference's array. -/
abbrev REF (x : FVec Ideal ⟨3, ![8, 4096, 5120]⟩ .bf16) : FVec Ideal ⟨3, ![8, 4096, 512]⟩ .bf16 := Cert.ReferenceIdeal.Read.val_main_v32 (F := Ideal) x

theorem ref_at (x : FVec Ideal ⟨3, ![8, 4096, 5120]⟩ .bf16) (i : (⟨3, ![8, 4096, 512]⟩ : Shape).Idx) : REF x i = res x (i 0) (i 1).val (i 2) := by
  have h := Ref.res_apply x (i 0) (i 1) (i 2)
  have hi : i = ix3 (i 0) (i 1) (i 2) := by funext a; match a with
    | ⟨0, _⟩ => rfl | ⟨1, _⟩ => rfl | ⟨2, _⟩ => rfl
  exact (congrArg (REF x) hi).trans h

theorem res_congr (x : (⟨3, ![8, 4096, 5120]⟩ : Shape).Idx → EReal) {b b' : Fin 8} {t t' : ℕ} {c c' : Fin 512} (hb : b = b') (ht : t = t')
    (hc : c = c') : res x b t c = res x b' t' c' := by subst hb ht hc; rfl

/-- The result's array after the run. -/
theorem final (c : Dev nD) : (dats m 0 c).arrAt 3 (cfg0 (F := Ideal)).N = REF (m ((c : Thread nD τ).loc main_arg0)) := by
  refine (dats m 0 c).arrAt_eq_of_covers 3 _ (by decide +kernel) fun t hf y => ?_
  blk_simp
  rw [after0_3]
  have ht : t.val < 512 := pt_lt t
  have hy : y = ix3 (0 : Fin 1) (y 1) (y 2) := by
    funext a
    match a with
    | ⟨0, _⟩ => exact Subsingleton.elim (α := Fin 1) _ _
    | ⟨1, _⟩ => rfl
    | ⟨2, _⟩ => rfl
  refine (congrArg (outAt (F := Ideal) (grid0.coords t) (iblk m c 0 t) (iblk m c 1 t) (iblk m c 2 t)) hy).trans
    ((point m c t (y 1) (y 2)).trans ((res_congr _ ?_ ?_ ?_).trans (ref_at _ _).symm))
  · have h : (y 0).val < 1 := (y 0).isLt
    refine Fin.ext ?_
    unfold bat
    blk_simp [idx t]
    all_goals omega
  · blk_simp [idx t]
    all_goals omega
  · refine Fin.ext (Eq.trans (b := 128 * (t.val / 128) + (y 2).val) rfl ?_)
    blk_simp [idx t]
    all_goals omega

end Cert.Proof.SB

end
-- ==== Proof.Algebraic.lean ====
/-
  The value claim: the stick-breaking call and the reference end with equal results.
-/
module

public import proofs.«01_k».proof.Defs
public import proofs.«01_k».proof.Proof.Gen.ReferenceIdeal
public import proofs.«01_k».proof.Proof.Value

@[expose] public section

noncomputable section

namespace Cert.Proof

open Idealize.ShloMosaic Idealize.ShloMosaic.TcCoe Idealize.SL.Sem

/-- From memories that agree on the projection, both programs end with the same stick-breaking result. -/
theorem algebraic : Cert.algebraic_KernelIdeal_ReferenceIdeal := by
  intro m ρ m' ρ' _ hagree
  refine ⟨fun c => SB.REF (m ((c.tc : Thread Cert.KernelIdeal.nD Cert.KernelIdeal.τ).loc Cert.KernelIdeal.main_arg0)),
    (θ_run Cert.KernelIdeal.defs _ _).mono (fun _ h c => ⟨((h.1 c).1).trans (SB.final m c), (h.1 c).2⟩) (SB.run_out (F := Ideal) m ρ), ?_⟩
  refine (θ_run Cert.ReferenceIdeal.defs _ _).mono (fun _ h c => ⟨(h c).1.trans ?_, (h c).2⟩) (Cert.ReferenceIdeal.Value.run (F := Ideal) m' ρ')
  refine (Cert.ReferenceIdeal.Read.val_main_v32_eq m' c).trans ?_
  exact congrArg (Cert.ReferenceIdeal.Read.val_main_v32 (F := Ideal)) (hagree c)

end Cert.Proof

end
-- ==== Proof.Inproj.lean ====
/-
  The projection call: its result is the reference's.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Inproj

open Idealize.ShloMosaic Idealize.ShloMosaic.TcCoe Idealize.SL.Sem
open Idealize.ShloMosaic.Pipeline (Dat)

/-- An entry of a row, normalised by the row's root mean square, scaled by a gain, then by one plus a scale, and shifted. -/
def nrm (x : Fin 1024 → EReal) (g sc sh : EReal) (k : Fin 1024) : EReal :=
  x k * Ideal.rsqrt (Ideal.div (∑ j, x j * x j) (Ideal.ofBits .f32 0x44800000#32) + Ideal.ofBits .f32 0x358637BD#32) * g * (1 + sc) + sh

/-- A three-axis index is its three coordinates. -/
theorem eta3 {a b c : ℕ} (y : (⟨3, ![a, b, c]⟩ : Shape).Idx) : y = ix3 (y 0) (y 1) (y 2) :=
  funext fun | ⟨0, _⟩ => rfl | ⟨1, _⟩ => rfl | ⟨2, _⟩ => rfl

/-- A three-axis index by its coordinates' values. -/
theorem ix3_eq {a b c : ℕ} {p : Fin a} {q : Fin b} {r : Fin c} {i : (⟨3, ![a, b, c]⟩ : Shape).Idx} (h0 : p.val = (i 0).val) (h1 : q.val = (i 1).val)
    (h2 : r.val = (i 2).val) : ix3 p q r = i := funext fun | ⟨0, _⟩ => Fin.ext h0 | ⟨1, _⟩ => Fin.ext h1 | ⟨2, _⟩ => Fin.ext h2

/-- A two-axis index by its coordinates' values. -/
theorem ix2_eq {a b : ℕ} {p : Fin a} {q : Fin b} {i : (⟨2, ![a, b]⟩ : Shape).Idx} (h0 : p.val = (i 0).val) (h1 : q.val = (i 1).val) :
    ix2 p q = i := funext fun | ⟨0, _⟩ => Fin.ext h0 | ⟨1, _⟩ => Fin.ext h1

/-- A coordinate read at unit stride. -/
theorem unit_step (o n : ℕ) : o + n = o + 1 * n := by rw [Nat.one_mul]

/-- A coordinate read at unit stride from the origin. -/
theorem unit_origin (n : ℕ) : n = 0 + 1 * n := by rw [Nat.zero_add, Nat.one_mul]

section Reference

open Cert.Reference2Ideal Cert.Reference2Ideal.Gen Cert.Reference2Ideal.Read

variable (x0 : (⟨S8x4096x1024, .f32⟩ : BufTy).Contents (Elt Ideal)) (x1 : (⟨S8x6x1024, .f32⟩ : BufTy).Contents (Elt Ideal))
  (x2 : (⟨S1024, .f32⟩ : BufTy).Contents (Elt Ideal)) (x3 : (⟨S1024x5120, .f32⟩ : BufTy).Contents (Elt Ideal))

/-- An entry of the reference's normalised rows. -/
theorem ref_rows (b : Fin 8) (t : Fin 4096) (k : Fin 1024) : val_main_v24 (F := Ideal) x0 x1 x2 (ix3 b t k)
    = nrm (fun j => x0 (ix3 b t j)) (x2 (ix1 k)) (x1 (ix3 b 1 k)) (x1 (ix3 b 0 k)) k := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]
  rfl

/-- An entry of the reference's result. -/
theorem ref_apply (b : Fin 8) (t : Fin 4096) (n : Fin 5120) : val_main_v26 (F := Ideal) x0 x1 x2 x3 (ix3 b t n)
    = ∑ k : Fin 1024, nrm (fun j => x0 (ix3 b t j)) (x2 (ix1 k)) (x1 (ix3 b 1 k)) (x1 (ix3 b 0 k)) k * x3 (ix2 k n) := by
  have h := fun k => ref_rows x0 x1 x2 b t k
  pointwise [val_main_v26, val_main_v25]
  simp only [h]

end Reference

section Kernel

open Cert.Kernel2Ideal Cert.Kernel2Ideal.Gen

/-- An entry of the rows the kernel normalises. -/
theorem rows_apply (v0 : Vec Ideal S1x512x1024 .f32) (v2 : Vec Ideal S1x1024 .f32) (v4 v6 : Vec Ideal S1x1x1024 .f32) (r : Fin 512) (k : Fin 1024) :
    k0_pay5 (F := Ideal) v0 v2 v4 v6 (ix2 r k) = nrm (fun j => v0 (ix3 0 r j)) (v2 (ix2 0 k)) (v6 (ix3 0 0 k)) (v4 (ix3 0 0 k)) k := by
  pointwise [k0_pay5]
  rfl

/-- An entry of the product of the normalised rows with one chunk of the weights. -/
theorem prod_apply (v : FVec Ideal S512x1024 .bf16) (w : Vec Ideal S1024x1024 .bf16) (x : S1x512x1024.Idx) :
    k0_pay1 (F := Ideal) v w x = ∑ k : Fin 1024, v (ix2 (x 1) k) * w (ix2 k (x 2)) := by
  pointwise [k0_pay1]

/-- The normalised rows of a block, read off the blocks the step was given. -/
theorem block_rows (x0 : Vec Ideal S1x512x1024 .f32) (x1 : Vec Ideal S1x6x1024 .f32) (x2 : Vec Ideal S1x1024 .f32) (x3 : Vec Ideal S1024x5120 .bf16)
    (r : Fin 512) (k : Fin 1024) : k0_pay7 (F := Ideal) x0 x1 x2 x3 (ix2 r k)
      = nrm (fun j => x0 (ix3 0 r j)) (x2 (ix2 0 k)) (x1 (ix3 0 1 k)) (x1 (ix3 0 0 k)) k := by
  refine (rows_apply _ _ _ _ r k).trans ?_
  have e0 : ∀ j : Fin 1024, View.ld x0 r0_0 (ix3 0 r j) = x0 (ix3 0 r j) := fun j =>
    congrArg x0 (ix3_eq rfl (unit_origin _) (unit_origin _)).symm
  have e2 : View.ld x2 r0_1 (ix2 0 k) = x2 (ix2 0 k) := congrArg x2 (ix2_eq rfl (unit_origin _)).symm
  have e4 : View.ld x1 r0_2 (ix3 0 0 k) = x1 (ix3 0 0 k) := congrArg x1 (ix3_eq rfl rfl (unit_origin _)).symm
  have e6 : View.ld x1 r0_3 (ix3 0 0 k) = x1 (ix3 0 1 k) := congrArg x1 (ix3_eq rfl rfl (unit_origin _)).symm
  simp only [e0, e2, e4, e6]

/-- A step's block of the result: each entry is a normalised row times a column of the weights. -/
theorem out_apply (x0 : Vec Ideal S1x512x1024 .f32) (x1 : Vec Ideal S1x6x1024 .f32) (x2 : Vec Ideal S1x1024 .f32) (x3 : Vec Ideal S1024x5120 .bf16)
    (r : Fin 512) (n : Fin 5120) : out0_4 (F := Ideal) x0 x1 x2 x3 (ix3 0 r n)
      = ∑ k : Fin 1024, k0_pay7 (F := Ideal) x0 x1 x2 x3 (ix2 r k) * x3 (ix2 k n) := by
  have key : ∀ (w : Vec Ideal S1024x1024 .bf16) (x : S1x512x1024.Idx), r.val = (x 1).val →
      (∀ k : Fin 1024, w (ix2 k (x 2)) = x3 (ix2 k n)) →
      k0_pay1 (F := Ideal) (k0_pay7 (F := Ideal) x0 x1 x2 x3) w x
        = ∑ k : Fin 1024, k0_pay7 (F := Ideal) x0 x1 x2 x3 (ix2 r k) * x3 (ix2 k n) := fun w x h1 h2 =>
    (prod_apply _ w x).trans (Finset.sum_congr rfl fun k _ =>
      congrArg₂ (· * ·) (congrArg (fun r => k0_pay7 (F := Ideal) x0 x1 x2 x3 (ix2 r k)) (Fin.ext h1.symm)) (h2 k))
  canon_tiles x h
  all_goals
    refine key _ x (by simpa using h1) fun k => ?_
    refine congrArg x3 (ix2_eq (unit_origin _) ?_).symm
    first | exact h2.trans (unit_step _ _) | exact h2.trans (unit_origin _)

variable (m : (ℓ : Loc nD τ sig) → Buf (Elt Ideal) ℓ)

/-- The windows' blocks at every point. -/
theorem idx : ∀ t : Fin cfg0.N,
    win0_0.index t = ![t.val / 8, t.val % 8, 0] ∧ win0_1.index t = ![t.val / 8, 0, 0] ∧ win0_2.index t = ![0, 0]
    ∧ win0_3.index t = ![0, 0] ∧ win0_4.index t = ![t.val / 8, t.val % 8, 0] :=
  (by decide +kernel : ∀ t : Fin grid0.N, _)

theorem pt_lt (t : Fin cfg0.N) : t.val < 64 := lt_of_lt_of_eq t.isLt (by decide +kernel)

/-- The batch of a point. -/
def bat (t : Fin cfg0.N) : Fin 8 := ⟨t.val / 8, by have := pt_lt t; omega⟩

/-- The token of a row of a point's block. -/
def tok (t : Fin cfg0.N) (r : Fin 512) : Fin 4096 := ⟨512 * (t.val % 8) + r.val, by omega⟩

/-- A point's rows are rows of the activations. -/
theorem x_read (c : Dev nD) (t : Fin cfg0.N) (r : Fin 512) (j : Fin 1024) :
    (show Vec Ideal S1x512x1024 .f32 from iblk m c 0 t) (ix3 0 r j) = m ((c : Thread nD τ).loc main_arg0) (ix3 (bat t) (tok t r) j) := by
  unfold bat tok
  blk_ext [iblk, V, idx t]

/-- A point's modulation rows are those of its batch. -/
theorem mod_read (c : Dev nD) (t : Fin cfg0.N) (i : Fin 6) (j : Fin 1024) :
    (show Vec Ideal S1x6x1024 .f32 from iblk m c 1 t) (ix3 0 i j) = m ((c : Thread nD τ).loc main_arg1) (ix3 (bat t) i j) := by
  unfold bat
  blk_ext [iblk, V, idx t]

/-- A point's gain is the gain. -/
theorem gain_read (c : Dev nD) (t : Fin cfg0.N) (j : Fin 1024) :
    (show Vec Ideal S1x1024 .f32 from iblk m c 2 t) (ix2 0 j) = m ((c : Thread nD τ).loc main_arg2) (ix1 j) := by
  blk_simp [iblk, idx t]
  entry_read
  pointwise
  blk_ext [idx t]

/-- A point's weights are the weights. -/
theorem w_read (c : Dev nD) (t : Fin cfg0.N) (k : Fin 1024) (n : Fin 5120) :
    (show Vec Ideal S1024x5120 .bf16 from iblk m c 3 t) (ix2 k n) = m ((c : Thread nD τ).loc main_arg3) (ix2 k n) := by
  blk_simp [iblk, idx t]
  entry_read
  pointwise
  blk_ext [idx t]

/-- What a point leaves in its block. -/
theorem point (c : Dev nD) (t : Fin cfg0.N) (r : Fin 512) (n : Fin 5120) :
    out0_4 (F := Ideal) (iblk m c 0 t) (iblk m c 1 t) (iblk m c 2 t) (iblk m c 3 t) (ix3 0 r n)
      = ∑ k : Fin 1024, nrm (fun j => m ((c : Thread nD τ).loc main_arg0) (ix3 (bat t) (tok t r) j)) (m ((c : Thread nD τ).loc main_arg2) (ix1 k))
          (m ((c : Thread nD τ).loc main_arg1) (ix3 (bat t) 1 k)) (m ((c : Thread nD τ).loc main_arg1) (ix3 (bat t) 0 k)) k
        * m ((c : Thread nD τ).loc main_arg3) (ix2 k n) := by
  refine (out_apply _ _ _ _ r n).trans (Finset.sum_congr rfl fun k _ => congrArg₂ (· * ·) ((block_rows _ _ _ _ r k).trans ?_) (w_read m c t k n))
  exact congr (congr (congr (congr (congrArg nrm (funext fun j => x_read m c t r j)) (gain_read m c t k)) (mod_read m c t 1 k)) (mod_read m c t 0 k)) rfl

/-- The reference's array. -/
abbrev REF (a0 : FVec Ideal ⟨3, ![8, 4096, 1024]⟩ .f32) (a1 : FVec Ideal ⟨3, ![8, 6, 1024]⟩ .f32) (a2 : FVec Ideal ⟨1, ![1024]⟩ .f32)
    (a3 : FVec Ideal ⟨2, ![1024, 5120]⟩ .f32) : FVec Ideal ⟨3, ![8, 4096, 5120]⟩ .bf16 := Cert.Reference2Ideal.Read.val_main_v26 (F := Ideal) a0 a1 a2 a3

/-- The result's array after the run. -/
theorem final (c : Dev nD) : (dats m 0 c).arrAt 4 cfg0.N = REF (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  have ht := pt_lt t
  have h0 : (y 0).val < 1 := (y 0).isLt
  have hy : y = ix3 (0 : Fin 1) (y 1) (y 2) := (eta3 y).trans (congrArg (fun a : Fin 1 => ix3 a (y 1) (y 2)) (Subsingleton.elim _ _))
  refine (congrArg (out0_4 (F := Ideal) (iblk m c 0 t) (iblk m c 1 t) (iblk m c 2 t) (iblk m c 3 t)) hy).trans
    ((point m c t (y 1) (y 2)).trans ((ref_apply _ _ _ _ (bat t) (tok t (y 1)) (y 2)).symm.trans (congrArg (REF _ _ _ _) ?_)))
  unfold bat tok
  refine ix3_eq (Eq.trans (b := t.val / 8) rfl ?_) (Eq.trans (b := 512 * (t.val % 8) + (y 1).val) rfl ?_) ?_
  all_goals
    blk_simp [idx t]
    all_goals omega

end Kernel

/-- Kernel and reference agree. -/
theorem algebraic2 : Cert.algebraic_Kernel2Ideal_Reference2Ideal := by
  intro m ρ m' ρ' _ hagree
  refine ⟨fun c => REF (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)), ?_, ?_⟩
  · refine (θ_run Cert.Kernel2Ideal.defs _ _).mono (fun r h c => ⟨((h.1 c).1 4).trans (final m c), h.2 c⟩)
      (θ_run_and (Cert.Kernel2Ideal.Gen.run_main (F := Ideal) m ρ) (Cert.Kernel2Ideal.Gen.unchanged (F := Ideal) m ρ))
  refine (θ_run Cert.Reference2Ideal.defs _ _).mono (fun _ h c => ⟨(h c).1.trans ?_, (h c).2⟩) (Cert.Reference2Ideal.Value.run (F := Ideal) m' ρ')
  refine (Cert.Reference2Ideal.Read.val_main_v26_eq (F := Ideal) _ _ _ _).trans ?_
  obtain ⟨h0, h1, h2, h3⟩ := hagree c
  exact congr (congr (congr (congrArg REF h0) h1) h2) h3

/-- The call leaves its arguments. -/
theorem frame_p2 : Cert.quiescent_Kernel2 := fun m ρ _ => Cert.Kernel2.Gen.frame m ρ

/-- The idealized call leaves its arguments. -/
theorem frame_pi2 : Cert.quiescent_Kernel2Ideal := fun m ρ _ => Cert.Kernel2Ideal.Gen.frame m ρ

/-- The reference leaves its arguments. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.Inproj

end
-- ==== Proof.Merge.lean ====
/-
  The merging call: its three results are the reference's.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Inproj

@[expose] public section

set_option maxRecDepth 16384

noncomputable section

namespace Cert.Proof.Merge

open Idealize.ShloMosaic Idealize.ShloMosaic.TcCoe Idealize.SL.Sem
open Idealize.ShloMosaic.Pipeline (Dat)
open Cert.Proof.Inproj (nrm eta3 ix3_eq ix2_eq unit_step unit_origin)

/-- The logistic function. -/
def gate (g : EReal) : EReal := Ideal.div 1 (1 + Ideal.exp (-g))

/-- An entry of the gated sum of the two attentions, each multiplied by its own weights. -/
def gated (oa ob : Fin 512 → EReal) (ga gb : Fin 1024 → EReal) (wa wb : Fin 512 → Fin 1024 → EReal) (j : Fin 1024) : EReal :=
  gate (ga j) * (∑ e, oa e * wa e j) + gate (gb j) * (∑ e, ob e * wb e j)

/-- An entry of the row with the merged attentions' product with the output weights added to it. -/
def joined (x g s : Fin 1024 → EReal) (wo : Fin 1024 → Fin 1024 → EReal) (k : Fin 1024) : EReal :=
  x k + g k * ∑ j, s j * wo j k

/-- A router weight: the group's, then the experts', then none. -/
def routerW (wg : FVec Ideal ⟨2, ![1024, 4]⟩ .f32) (we : FVec Ideal ⟨2, ![1024, 32]⟩ .f32) (k : Fin 1024) (n : Fin 128) : EReal :=
  if h : n.val < 4 then wg (ix2 k ⟨n.val, h⟩) else if h : n.val - 4 < 32 then we (ix2 k ⟨n.val - 4, h⟩) else 0

/-- A router bias: the group's, then the experts', then none. -/
def routerB (bg : FVec Ideal ⟨1, ![4]⟩ .f32) (be : FVec Ideal ⟨1, ![32]⟩ .f32) (n : Fin 128) : EReal :=
  if h : n.val < 4 then bg (ix1 ⟨n.val, h⟩) else if h : n.val - 4 < 32 then be (ix1 ⟨n.val - 4, h⟩) else 0

section Reference

open Cert.Reference3Ideal Cert.Reference3Ideal.Gen Cert.Reference3Ideal.Read

variable (x0 : FVec Ideal S8x4096x1024 .f32) (x1 x2 : FVec Ideal S8x4096x512 .bf16) (x3 : FVec Ideal S8x4096x5120 .bf16) (x4 : FVec Ideal S8x6x1024 .f32)
  (x5 x6 : FVec Ideal S512x1024 .f32) (x7 : FVec Ideal S1024x1024 .f32) (x8 : FVec Ideal S1024 .f32) (x9 : FVec Ideal S1024x4 .f32)
  (x10 : FVec Ideal S4 .f32) (x11 : FVec Ideal S1024x32 .f32) (x12 : FVec Ideal S32 .f32)

/-- The reference's gated sum. -/
theorem ref_gated (b : Fin 8) (t : Fin 4096) (j : Fin 1024) : val_main_v31 (F := Ideal) x1 x2 x3 x5 x6 (ix3 b t j)
    = gated (fun e => x1 (ix3 b t e)) (fun e => x2 (ix3 b t e)) (fun j => x3 (ix3 b t ⟨3072 + j.val, by omega⟩)) (fun j => x3 (ix3 b t ⟨3072 + (1024 + j.val), by omega⟩))
        (fun e j => x5 (ix2 e j)) (fun e j => x6 (ix2 e j)) j := by
  pointwise [val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_cst, val_main_cst_0, val_main_cst_1, val_main_cst_2]
  rfl

/-- The reference's rows after the attentions. -/
theorem ref_joined (b : Fin 8) (t : Fin 4096) (k : Fin 1024) : val_main_v35 (F := Ideal) x0 x1 x2 x3 x4 x5 x6 x7 (ix3 b t k)
    = joined (fun k => x0 (ix3 b t k)) (fun k => x4 (ix3 b 2 k)) (fun j => val_main_v31 (F := Ideal) x1 x2 x3 x5 x6 (ix3 b t j)) (fun j k => x7 (ix2 j k)) k := by
  pointwise [val_main_v35, val_main_v34, val_main_v33, val_main_v32, val_main_v2, val_main_v1, val_main_v0]
  rfl

/-- The reference's normalised rows. -/
theorem ref_rows (b : Fin 8) (t : Fin 4096) (k : Fin 1024) : val_main_v54 (F := Ideal) x0 x1 x2 x3 x4 x5 x6 x7 x8 (ix3 b t k)
    = nrm (fun j => val_main_v35 (F := Ideal) x0 x1 x2 x3 x4 x5 x6 x7 (ix3 b t j)) (x8 (ix1 k)) (x4 (ix3 b 4 k)) (x4 (ix3 b 3 k)) k := by
  pointwise [val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v8, val_main_v7,
    val_main_v6, val_main_v5, val_main_v4, val_main_v3, val_main_cst_3, val_main_cst_4, val_main_cst_5, val_main_cst_6]
  rfl

/-- The reference's router logits. -/
theorem ref_logits (b : Fin 8) (t : Fin 4096) (n : Fin 128) : val_main_v64 (F := Ideal) x0 x1 x2 x3 x4 x5 x6 x7 x8 x9 x10 x11 x12 (ix3 b t n)
    = (∑ k, val_main_v54 (F := Ideal) x0 x1 x2 x3 x4 x5 x6 x7 x8 (ix3 b t k) * routerW x9 x11 k n) + routerB x10 x12 n := by
  pointwise [val_main_v64, val_main_v63, val_main_v62, val_main_v61, val_main_v60, val_main_v59, val_main_v58, val_main_v57, val_main_v56, val_main_v55, val_main_cst_7]
  unfold routerW routerB
  split
  · rfl
  split
  · rfl
  simp only [mul_zero, Finset.sum_const_zero, add_zero]

/-- The rows leave as they are. -/
theorem ref_round (i : (⟨3, ![8, 4096, 1024]⟩ : Shape).Idx) : val_main_v65 (F := Ideal) x0 x1 x2 x3 x4 x5 x6 x7 x8 i
    = val_main_v54 (F := Ideal) x0 x1 x2 x3 x4 x5 x6 x7 x8 i := by
  pointwise [val_main_v65]

end Reference

section Kernel

open Cert.Kernel3Ideal Cert.Kernel3Ideal.Gen

/-- What the kernel adds to its rows. -/
theorem pay3_apply (v0 : Vec Ideal S1x512x512 .bf16) (v2 : Vec Ideal S512x1024 .bf16) (v5 : Vec Ideal S1x512x512 .bf16) (v7 : Vec Ideal S512x1024 .bf16)
    (v10 v15 : Vec Ideal S1x512x1024 .bf16) (v22 : Vec Ideal S1024x1024 .bf16) (v27 : Vec Ideal S1x1x1024 .f32) (r : Fin 512) (k : Fin 1024) :
    k0_pay3 (F := Ideal) v0 v2 v5 v7 v10 v15 v22 v27 (ix2 r k)
      = v27 (ix3 0 0 k) * ∑ j, gated (fun e => v0 (ix3 0 r e)) (fun e => v5 (ix3 0 r e)) (fun j => v10 (ix3 0 r j)) (fun j => v15 (ix3 0 r j))
          (fun e j => v2 (ix2 e j)) (fun e j => v7 (ix2 e j)) j * v22 (ix2 j k) := by
  pointwise [k0_pay3]
  rfl

/-- The kernel's rows after the attentions. -/
theorem pay5_apply (v26 v30 : FVec Ideal S512x1024 .f32) (x : S1x512x1024.Idx) :
    k0_pay5 (F := Ideal) v26 v30 x = v26 (ix2 (x 1) (x 2)) + v30 (ix2 (x 1) (x 2)) := by
  pointwise [k0_pay5, k0_pay4]

/-- The rows the kernel is given. -/
theorem pay2_apply (v25 : Vec Ideal S1x512x1024 .f32) (r : Fin 512) (k : Fin 1024) :
    k0_pay2 (F := Ideal) v25 (ix2 r k) = v25 (ix3 0 r k) := by
  pointwise [k0_pay2]

/-- The rows the kernel normalises. -/
theorem pay6_apply (v26 v30 : FVec Ideal S512x1024 .f32) (v35 : Vec Ideal S1x1024 .f32) (v37 v39 : Vec Ideal S1x1x1024 .f32) (r : Fin 512) (k : Fin 1024) :
    k0_pay6 (F := Ideal) v26 v30 v35 v37 v39 (ix2 r k)
      = nrm (fun j => v26 (ix2 r j) + v30 (ix2 r j)) (v35 (ix2 0 k)) (v39 (ix3 0 0 k)) (v37 (ix3 0 0 k)) k := by
  pointwise [k0_pay6, k0_pay4]
  rfl

/-- The normalised rows leave as they are. -/
theorem pay7_apply (v26 v30 : FVec Ideal S512x1024 .f32) (v35 : Vec Ideal S1x1024 .f32) (v37 v39 : Vec Ideal S1x1x1024 .f32) (x : S1x512x1024.Idx) :
    k0_pay7 (F := Ideal) v26 v30 v35 v37 v39 x = k0_pay6 (F := Ideal) v26 v30 v35 v37 v39 (ix2 (x 1) (x 2)) := by
  pointwise [k0_pay7]

/-- The kernel's router logits. -/
theorem pay1_apply (v26 v30 : FVec Ideal S512x1024 .f32) (v35 : Vec Ideal S1x1024 .f32) (v37 v39 : Vec Ideal S1x1x1024 .f32)
    (v63 : Vec Ideal S1024x128 .f32) (v66 : Vec Ideal S1x128 .f32) (x : S1x512x128.Idx) :
    k0_pay1 (F := Ideal) (k0_pay8 (F := Ideal) v26 v30 v35 v37 v39 v63) v66 x
      = (∑ k : Fin 1024, k0_pay6 (F := Ideal) v26 v30 v35 v37 v39 (ix2 (x 1) k) * v63 (ix2 k (x 2))) + v66 (ix2 0 (x 2)) := by
  pointwise [k0_pay1, k0_pay8]

section Blocks

variable (x0 : Vec Ideal S1x512x1024 .f32) (x1 x2 : Vec Ideal S1x512x512 .bf16) (x3 x4 : Vec Ideal S1x512x1024 .bf16) (x5 : Vec Ideal S1x6x1024 .f32)
  (x6 x7 : Vec Ideal S512x1024 .bf16) (x8 : Vec Ideal S1024x1024 .bf16) (x9 : Vec Ideal S1x1024 .f32) (x10 : Vec Ideal S1024x128 .f32) (x11 : Vec Ideal S1x128 .f32)

/-- An entry of a block's rows after the attentions. -/
theorem block_joined (r : Fin 512) (k : Fin 1024) :
    k0_pay9 (F := Ideal) x0 x1 x2 x3 x4 x5 x6 x7 x8 x9 x10 x11 (ix2 r k) + k0_pay10 (F := Ideal) x0 x1 x2 x3 x4 x5 x6 x7 x8 x9 x10 x11 (ix2 r k)
      = joined (fun k => x0 (ix3 0 r k)) (fun k => x5 (ix3 0 2 k)) (gated (fun e => x1 (ix3 0 r e)) (fun e => x2 (ix3 0 r e)) (fun j => x3 (ix3 0 r j))
          (fun j => x4 (ix3 0 r j)) (fun e j => x6 (ix2 e j)) (fun e j => x7 (ix2 e j))) (fun j k => x8 (ix2 j k)) k := by
  refine (congrArg₂ (· + ·) (pay2_apply _ r k) (pay3_apply _ _ _ _ _ _ _ _ r k)).trans ?_
  have e0 : View.ld x0 r0_2 (ix3 0 r k) = x0 (ix3 0 r k) := congrArg x0 (ix3_eq rfl (unit_origin _) (unit_origin _)).symm
  have e1 : ∀ (x : Vec Ideal S1x512x512 .bf16) (e : Fin 512), View.ld x r0_0 (ix3 0 r e) = x (ix3 0 r e) := fun x e =>
    congrArg x (ix3_eq rfl (unit_origin _) (unit_origin _)).symm
  have e3 : ∀ (x : Vec Ideal S1x512x1024 .bf16) (j : Fin 1024), View.ld x r0_2 (ix3 0 r j) = x (ix3 0 r j) := fun x j =>
    congrArg x (ix3_eq rfl (unit_origin _) (unit_origin _)).symm
  have e6 : ∀ (x : Vec Ideal S512x1024 .bf16) (e : Fin 512) (j : Fin 1024), View.ld x r0_1 (ix2 e j) = x (ix2 e j) := fun x e j =>
    congrArg x (ix2_eq (unit_origin _) (unit_origin _)).symm
  have e8 : ∀ j : Fin 1024, View.ld x8 r0_3 (ix2 j k) = x8 (ix2 j k) := fun j => congrArg x8 (ix2_eq (unit_origin _) (unit_origin _)).symm
  have e5 : View.ld x5 r0_4 (ix3 0 0 k) = x5 (ix3 0 2 k) := congrArg x5 (ix3_eq rfl rfl (unit_origin _)).symm
  refine congrArg₂ (· + ·) e0 (congrArg₂ (· * ·) e5 (Finset.sum_congr rfl fun j _ => congrArg₂ (· * ·) (congrFun ?_ j) (e8 j)))
  exact congr (congr (congr (congr (congr (congrArg gated (funext (e1 x1))) (funext (e1 x2))) (funext (e3 x3))) (funext (e3 x4)))
    (funext fun e => funext (e6 x6 e))) (funext fun e => funext (e6 x7 e))

/-- A step's block of the rows after the attentions. -/
theorem out12_apply (r : Fin 512) (k : Fin 1024) : out0_12 (F := Ideal) x0 x1 x2 x3 x4 x5 x6 x7 x8 x9 x10 x11 (ix3 0 r k)
    = k0_pay9 (F := Ideal) x0 x1 x2 x3 x4 x5 x6 x7 x8 x9 x10 x11 (ix2 r k) + k0_pay10 (F := Ideal) x0 x1 x2 x3 x4 x5 x6 x7 x8 x9 x10 x11 (ix2 r k) := by
  canon_tiles x h
  refine (pay5_apply _ _ x).trans ?_
  have hr : x 1 = r := Fin.ext h1.symm
  have hk : x 2 = k := Fin.ext h2.symm
  rw [hr, hk]

/-- An entry of a block's normalised rows. -/
theorem block_rows (r : Fin 512) (k : Fin 1024) : k0_pay6 (F := Ideal) (k0_pay9 (F := Ideal) x0 x1 x2 x3 x4 x5 x6 x7 x8 x9 x10 x11)
    (k0_pay10 (F := Ideal) x0 x1 x2 x3 x4 x5 x6 x7 x8 x9 x10 x11) (View.ld x9 r0_5) (View.ld x5 r0_6) (View.ld x5 r0_7) (ix2 r k)
    = nrm (fun j => k0_pay9 (F := Ideal) x0 x1 x2 x3 x4 x5 x6 x7 x8 x9 x10 x11 (ix2 r j) + k0_pay10 (F := Ideal) x0 x1 x2 x3 x4 x5 x6 x7 x8 x9 x10 x11 (ix2 r j))
        (x9 (ix2 0 k)) (x5 (ix3 0 4 k)) (x5 (ix3 0 3 k)) k := by
  refine (pay6_apply _ _ _ _ _ r k).trans ?_
  have e9 : View.ld x9 r0_5 (ix2 0 k) = x9 (ix2 0 k) := congrArg x9 (ix2_eq rfl (unit_origin _)).symm
  have e3 : View.ld x5 r0_6 (ix3 0 0 k) = x5 (ix3 0 3 k) := congrArg x5 (ix3_eq rfl rfl (unit_origin _)).symm
  have e4 : View.ld x5 r0_7 (ix3 0 0 k) = x5 (ix3 0 4 k) := congrArg x5 (ix3_eq rfl rfl (unit_origin _)).symm
  exact congr (congr (congr (congrArg (nrm _) e9) e4) e3) rfl

/-- A step's block of the normalised rows. -/
theorem out13_apply (r : Fin 512) (k : Fin 1024) : out0_13 (F := Ideal) x0 x1 x2 x3 x4 x5 x6 x7 x8 x9 x10 x11 (ix3 0 r k)
    = nrm (fun j => k0_pay9 (F := Ideal) x0 x1 x2 x3 x4 x5 x6 x7 x8 x9 x10 x11 (ix2 r j) + k0_pay10 (F := Ideal) x0 x1 x2 x3 x4 x5 x6 x7 x8 x9 x10 x11 (ix2 r j))
        (x9 (ix2 0 k)) (x5 (ix3 0 4 k)) (x5 (ix3 0 3 k)) k := by
  canon_tiles x h
  refine (pay7_apply _ _ _ _ _ x).trans ?_
  have hr : x 1 = r := Fin.ext h1.symm
  have hk : x 2 = k := Fin.ext h2.symm
  rw [hr, hk]
  exact block_rows x0 x1 x2 x3 x4 x5 x6 x7 x8 x9 x10 x11 r k

/-- A step's block of the router's logits. -/
theorem out14_apply (r : Fin 512) (n : Fin 128) : out0_14 (F := Ideal) x0 x1 x2 x3 x4 x5 x6 x7 x8 x9 x10 x11 (ix3 0 r n)
    = (∑ k, nrm (fun j => k0_pay9 (F := Ideal) x0 x1 x2 x3 x4 x5 x6 x7 x8 x9 x10 x11 (ix2 r j) + k0_pay10 (F := Ideal) x0 x1 x2 x3 x4 x5 x6 x7 x8 x9 x10 x11 (ix2 r j))
        (x9 (ix2 0 k)) (x5 (ix3 0 4 k)) (x5 (ix3 0 3 k)) k * x10 (ix2 k n)) + x11 (ix2 0 n) := by
  canon_tiles x h
  refine (pay1_apply _ _ _ _ _ _ _ x).trans ?_
  have hr : x 1 = r := Fin.ext h1.symm
  have hk : x 2 = n := Fin.ext h2.symm
  rw [hr, hk]
  exact congrArg₂ (· + ·) (Finset.sum_congr rfl fun k _ => congrArg₂ (· * ·) (block_rows x0 x1 x2 x3 x4 x5 x6 x7 x8 x9 x10 x11 r k)
    (congrArg x10 (ix2_eq (unit_origin _) (unit_origin _)).symm)) (congrArg x11 (ix2_eq rfl (unit_origin _)).symm)

end Blocks

variable (m : (ℓ : Loc nD τ sig) → Buf (Elt Ideal) ℓ)

/-- The windows' blocks at every point: a tile of tokens, the batch's modulation, and the weights whole. -/
theorem idx : ∀ t : Fin cfg0.N,
    win0_0.index t = ![t.val / 8, t.val % 8, 0] ∧ win0_1.index t = ![t.val / 8, t.val % 8, 0] ∧ win0_2.index t = ![t.val / 8, t.val % 8, 0]
    ∧ win0_3.index t = ![t.val / 8, t.val % 8, 3] ∧ win0_4.index t = ![t.val / 8, t.val % 8, 4] ∧ win0_5.index t = ![t.val / 8, 0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![t.val / 8, t.val % 8, 0] ∧ win0_13.index t = ![t.val / 8, t.val % 8, 0]
    ∧ win0_14.index t = ![t.val / 8, t.val % 8, 0] :=
  (by decide +kernel : ∀ t : Fin grid0.N, _)

theorem pt_lt (t : Fin cfg0.N) : t.val < 64 := lt_of_lt_of_eq t.isLt (by decide +kernel)

/-- The batch of a point. -/
def bat (t : Fin cfg0.N) : Fin 8 := ⟨t.val / 8, by have := pt_lt t; omega⟩

/-- The token of a row of a point's block. -/
def tok (t : Fin cfg0.N) (r : Fin 512) : Fin 4096 := ⟨512 * (t.val % 8) + r.val, by omega⟩

/-- The router's weights, joined on the host. -/
def joinW (x9 : FVec Ideal S1024x4 .f32) (x11 : FVec Ideal S1024x32 .f32) : FVec Ideal S1024x128 .f32 :=
  concatenate S1024x128 1 [⟨S1024x4, x9⟩, ⟨S1024x32, x11⟩,
    ⟨S1024x92, (broadcastInDim S1024x92 ![] bcast_S_S1024x92 (constant (F := Ideal) S_ .f32 0x00000000#32) : FVec Ideal S1024x92 .f32)⟩]
    concatenates_S1024x4_S1024x32_S1024x92_S1024x128_d1

/-- An entry of the joined weights. -/
theorem joinW_apply (x9 : FVec Ideal S1024x4 .f32) (x11 : FVec Ideal S1024x32 .f32) (k : Fin 1024) (n : Fin 128) :
    joinW x9 x11 (ix2 k n) = routerW x9 x11 k n := by
  unfold routerW
  pointwise [joinW]

/-- The launch finds the joined weights. -/
theorem joinW_read (c : Dev nD) : V m c main_v1 = joinW (m ((c : Thread nD τ).loc main_arg9)) (m ((c : Thread nD τ).loc main_arg11)) := rfl

/-- The router's biases, joined on the host. -/
def joinB (x10 : FVec Ideal S4 .f32) (x12 : FVec Ideal S32 .f32) : FVec Ideal S1x128 .f32 :=
  shapeCast _ (concatenate S128 0 [⟨S4, x10⟩, ⟨S32, x12⟩,
    ⟨S92, (broadcastInDim S92 ![] bcast_S_S92 (constant (F := Ideal) S_ .f32 0x00000000#32) : FVec Ideal S92 .f32)⟩]
    concatenates_S4_S32_S92_S128_d0) shapeCasts_S128_S1x128

/-- An entry of the joined biases. -/
theorem joinB_apply (x10 : FVec Ideal S4 .f32) (x12 : FVec Ideal S32 .f32) (n : Fin 128) : joinB x10 x12 (ix2 0 n) = routerB x10 x12 n := by
  unfold routerB
  pointwise [joinB]

/-- The launch finds the joined biases. -/
theorem joinB_read (c : Dev nD) : V m c main_v4 = joinB (m ((c : Thread nD τ).loc main_arg10)) (m ((c : Thread nD τ).loc main_arg12)) := rfl

section Reads

variable (c : Dev nD) (t : Fin cfg0.N) (r : Fin 512)

/-- A point's rows. -/
theorem x_read (k : Fin 1024) : (show Vec Ideal S1x512x1024 .f32 from iblk m c 0 t) (ix3 0 r k)
    = m ((c : Thread nD τ).loc main_arg0) (ix3 (bat t) (tok t r) k) := by
  unfold bat tok
  blk_ext [iblk, V, idx t]

/-- A point's rows of the first attention. -/
theorem oa_read (e : Fin 512) : (show Vec Ideal S1x512x512 .bf16 from iblk m c 1 t) (ix3 0 r e)
    = m ((c : Thread nD τ).loc main_arg1) (ix3 (bat t) (tok t r) e) := by
  unfold bat tok
  blk_ext [iblk, V, idx t]

/-- A point's rows of the second attention. -/
theorem ob_read (e : Fin 512) : (show Vec Ideal S1x512x512 .bf16 from iblk m c 2 t) (ix3 0 r e)
    = m ((c : Thread nD τ).loc main_arg2) (ix3 (bat t) (tok t r) e) := by
  unfold bat tok
  blk_ext [iblk, V, idx t]

/-- A point's rows of the first gate. -/
theorem ga_read (j : Fin 1024) : (show Vec Ideal S1x512x1024 .bf16 from iblk m c 3 t) (ix3 0 r j)
    = m ((c : Thread nD τ).loc main_arg3) (ix3 (bat t) (tok t r) ⟨3072 + j.val, by omega⟩) := by
  unfold bat tok
  blk_ext [iblk, V, idx t]

/-- A point's rows of the second gate. -/
theorem gb_read (j : Fin 1024) : (show Vec Ideal S1x512x1024 .bf16 from iblk m c 4 t) (ix3 0 r j)
    = m ((c : Thread nD τ).loc main_arg3) (ix3 (bat t) (tok t r) ⟨3072 + (1024 + j.val), by omega⟩) := by
  unfold bat tok
  blk_ext [iblk, V, idx t]

/-- A point's modulation rows are those of its batch. -/
theorem mod_read (i : Fin 6) (k : Fin 1024) : (show Vec Ideal S1x6x1024 .f32 from iblk m c 5 t) (ix3 0 i k)
    = m ((c : Thread nD τ).loc main_arg4) (ix3 (bat t) i k) := by
  unfold bat
  blk_ext [iblk, V, idx t]

/-- The first attention's weights. -/
theorem wa_read (e : Fin 512) (j : Fin 1024) : (show Vec Ideal S512x1024 .bf16 from iblk m c 6 t) (ix2 e j)
    = m ((c : Thread nD τ).loc main_arg5) (ix2 e j) := by
  refine Eq.trans (b := V m c main_v5 (ix2 e j)) ?_ rfl
  blk_ext [iblk, idx t]

/-- The second attention's weights. -/
theorem wb_read (e : Fin 512) (j : Fin 1024) : (show Vec Ideal S512x1024 .bf16 from iblk m c 7 t) (ix2 e j)
    = m ((c : Thread nD τ).loc main_arg6) (ix2 e j) := by
  refine Eq.trans (b := V m c main_v6 (ix2 e j)) ?_ rfl
  blk_ext [iblk, idx t]

/-- The output weights. -/
theorem wo_read (j k : Fin 1024) : (show Vec Ideal S1024x1024 .bf16 from iblk m c 8 t) (ix2 j k)
    = m ((c : Thread nD τ).loc main_arg7) (ix2 j k) := by
  refine Eq.trans (b := V m c main_v7 (ix2 j k)) ?_ rfl
  blk_ext [iblk, idx t]

/-- The gain. -/
theorem gain_read (k : Fin 1024) : (show Vec Ideal S1x1024 .f32 from iblk m c 9 t) (ix2 0 k) = m ((c : Thread nD τ).loc main_arg8) (ix1 k) := by
  blk_simp [iblk, idx t]
  entry_read
  pointwise
  blk_ext [idx t]

/-- The router's weights. -/
theorem wr_read (k : Fin 1024) (n : Fin 128) : (show Vec Ideal S1024x128 .f32 from iblk m c 10 t) (ix2 k n)
    = routerW (m ((c : Thread nD τ).loc main_arg9)) (m ((c : Thread nD τ).loc main_arg11)) k n := by
  refine Eq.trans (b := V m c main_v1 (ix2 k n)) ?_ ((congrFun (joinW_read m c) _).trans (joinW_apply _ _ k n))
  blk_ext [iblk, idx t]

/-- The router's biases. -/
theorem br_read (n : Fin 128) : (show Vec Ideal S1x128 .f32 from iblk m c 11 t) (ix2 0 n)
    = routerB (m ((c : Thread nD τ).loc main_arg10)) (m ((c : Thread nD τ).loc main_arg12)) n := by
  refine Eq.trans (b := V m c main_v4 (ix2 0 n)) ?_ ((congrFun (joinB_read m c) _).trans (joinB_apply _ _ n))
  blk_ext [iblk, idx t]

end Reads

/-- The reference's rows after the attentions. -/
abbrev R35 (c : Dev nD) : FVec Ideal ⟨3, ![8, 4096, 1024]⟩ .f32 := Cert.Reference3Ideal.Read.val_main_v35 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

/-- The reference's normalised rows. -/
abbrev R54 (c : Dev nD) : FVec Ideal ⟨3, ![8, 4096, 1024]⟩ .f32 := Cert.Reference3Ideal.Read.val_main_v54 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8))

/-- The reference's normalised rows as they leave. -/
abbrev R65 (c : Dev nD) : FVec Ideal ⟨3, ![8, 4096, 1024]⟩ .bf16 := Cert.Reference3Ideal.Read.val_main_v65 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8))

/-- The reference's logits. -/
abbrev R64 (c : Dev nD) : FVec Ideal ⟨3, ![8, 4096, 128]⟩ .f32 := Cert.Reference3Ideal.Read.val_main_v64 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12))

section Points

variable (c : Dev nD) (t : Fin cfg0.N) (r : Fin 512)

/-- A point's rows after the attentions are the reference's. -/
theorem rows_eq (k : Fin 1024) : k0_pay9 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r k)
    + k0_pay10 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r k) = R35 m c (ix3 (bat t) (tok t r) k) := by
  refine (block_joined _ _ _ _ _ _ _ _ _ _ _ _ r k).trans (Eq.trans ?_ (ref_joined _ _ _ _ _ _ _ _ (bat t) (tok t r) k).symm)
  refine congrFun (congr (congr (congr (congrArg joined (funext fun k => x_read m c t r k)) (funext fun k => mod_read m c t 2 k))
    (funext fun j => ?_)) (funext fun j => funext fun k => wo_read m c t j k)) k
  refine Eq.trans (congrFun ?_ j) (ref_gated _ _ _ _ _ (bat t) (tok t r) j).symm
  exact congr (congr (congr (congr (congr (congrArg gated (funext fun e => oa_read m c t r e)) (funext fun e => ob_read m c t r e))
    (funext fun j => ga_read m c t r j)) (funext fun j => gb_read m c t r j)) (funext fun e => funext fun j => wa_read m c t e j))
    (funext fun e => funext fun j => wb_read m c t e j)

/-- A point's normalised rows are the reference's. -/
theorem norm_eq (k : Fin 1024) : nrm (fun j => k0_pay9 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r j)
    + k0_pay10 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r j))
      ((show Vec Ideal S1x1024 .f32 from iblk m c 9 t) (ix2 0 k)) ((show Vec Ideal S1x6x1024 .f32 from iblk m c 5 t) (ix3 0 4 k))
      ((show Vec Ideal S1x6x1024 .f32 from iblk m c 5 t) (ix3 0 3 k)) k = R54 m c (ix3 (bat t) (tok t r) k) := by
  refine Eq.trans ?_ (ref_rows _ _ _ _ _ _ _ _ _ (bat t) (tok t r) k).symm
  exact congrFun (congr (congr (congr (congrArg nrm (funext fun j => rows_eq m c t r j)) (gain_read m c t k)) (mod_read m c t 4 k)) (mod_read m c t 3 k)) k

/-- A point's logits are the reference's. -/
theorem logits_eq (n : Fin 128) : out0_14 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 0 r n) = R64 m c (ix3 (bat t) (tok t r) n) := by
  refine (out14_apply _ _ _ _ _ _ _ _ _ _ _ _ r n).trans (Eq.trans ?_ (ref_logits _ _ _ _ _ _ _ _ _ _ _ _ _ (bat t) (tok t r) n).symm)
  exact congrArg₂ (· + ·) (Finset.sum_congr rfl fun k _ => congrArg₂ (· * ·) (norm_eq m c t r k) (wr_read m c t k n)) (br_read m c t n)

end Points

/-- The rows after the attentions, after the run. -/
theorem final12 (c : Dev nD) : (dats m 0 c).arrAt 12 cfg0.N = R35 m c := by
  refine (dats m 0 c).arrAt_eq_of_covers 12 _ (by decide +kernel) fun t hf y => ?_
  blk_simp
  rw [after0_12]
  have ht := pt_lt t
  have h0 : (y 0).val < 1 := (y 0).isLt
  have hy : y = ix3 (0 : Fin 1) (y 1) (y 2) := (eta3 y).trans (congrArg (fun a : Fin 1 => ix3 a (y 1) (y 2)) (Subsingleton.elim _ _))
  refine (congrArg (out0_12 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)) hy).trans (Eq.trans ((out12_apply _ _ _ _ _ _ _ _ _ _ _ _ (y 1) (y 2)).trans (rows_eq m c t (y 1) (y 2))) (congrArg (R35 m c) ?_))
  unfold bat tok
  refine ix3_eq (Eq.trans (b := t.val / 8) rfl ?_) (Eq.trans (b := 512 * (t.val % 8) + (y 1).val) rfl ?_) ?_
  all_goals
    blk_simp [idx t]
    all_goals omega

/-- The normalised rows after the run. -/
theorem final13 (c : Dev nD) : (dats m 0 c).arrAt 13 cfg0.N = R65 m c := by
  refine (dats m 0 c).arrAt_eq_of_covers 13 _ (by decide +kernel) fun t hf y => ?_
  blk_simp
  rw [after0_13]
  have ht := pt_lt t
  have h0 : (y 0).val < 1 := (y 0).isLt
  have hy : y = ix3 (0 : Fin 1) (y 1) (y 2) := (eta3 y).trans (congrArg (fun a : Fin 1 => ix3 a (y 1) (y 2)) (Subsingleton.elim _ _))
  refine (congrArg (out0_13 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)) hy).trans (Eq.trans ((out13_apply _ _ _ _ _ _ _ _ _ _ _ _ (y 1) (y 2)).trans ((norm_eq m c t (y 1) (y 2)).trans (ref_round _ _ _ _ _ _ _ _ _ _).symm)) (congrArg (R65 m c) ?_))
  unfold bat tok
  refine ix3_eq (Eq.trans (b := t.val / 8) rfl ?_) (Eq.trans (b := 512 * (t.val % 8) + (y 1).val) rfl ?_) ?_
  all_goals
    blk_simp [idx t]
    all_goals omega

/-- The logits after the run. -/
theorem final14 (c : Dev nD) : (dats m 0 c).arrAt 14 cfg0.N = R64 m c := by
  refine (dats m 0 c).arrAt_eq_of_covers 14 _ (by decide +kernel) fun t hf y => ?_
  blk_simp
  rw [after0_14]
  have ht := pt_lt t
  have h0 : (y 0).val < 1 := (y 0).isLt
  have hy : y = ix3 (0 : Fin 1) (y 1) (y 2) := (eta3 y).trans (congrArg (fun a : Fin 1 => ix3 a (y 1) (y 2)) (Subsingleton.elim _ _))
  refine (congrArg (out0_14 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)) hy).trans (Eq.trans (logits_eq m c t (y 1) (y 2)) (congrArg (R64 m c) ?_))
  unfold bat tok
  refine ix3_eq (Eq.trans (b := t.val / 8) rfl ?_) (Eq.trans (b := 512 * (t.val % 8) + (y 1).val) rfl ?_) ?_
  all_goals
    blk_simp [idx t]
    all_goals omega

end Kernel

/-- Kernel and reference agree. -/
theorem algebraic3 : Cert.algebraic_Kernel3Ideal_Reference3Ideal := by
  intro m ρ m' ρ' _ hagree
  refine ⟨R35 m, R65 m, R64 m, ?_, ?_⟩
  · exact (θ_run Cert.Kernel3Ideal.defs _ _).mono
      (fun r h c => ⟨((h.1 c).1 12).trans (final12 m c), ((h.1 c).1 13).trans (final13 m c), ((h.1 c).1 14).trans (final14 m c), h.2 c⟩)
      (θ_run_and (Cert.Kernel3Ideal.Gen.run_main (F := Ideal) m ρ) (Cert.Kernel3Ideal.Gen.unchanged (F := Ideal) m ρ))
  refine (θ_run Cert.Reference3Ideal.defs _ _).mono (fun _ h c => ⟨(h c).1.trans ?_, (h c).2.1.trans ?_, (h c).2.2.1.trans ?_, (h c).2.2.2⟩)
    (Cert.Reference3Ideal.Value.run (F := Ideal) m' ρ')
  all_goals obtain ⟨h0, h1, h2, h3, h4, h5, h6, h7, h8, h9, h10, h11, h12⟩ := hagree c
  · refine (Cert.Reference3Ideal.Read.val_main_v35_eq (F := Ideal) _ _ _ _ _ _ _ _).trans ?_
    exact congr (congr (congr (congr (congr (congr (congr (congrArg (Cert.Reference3Ideal.Read.val_main_v35 (F := Ideal)) h0) h1) h2) h3) h4) h5) h6) h7
  · refine (Cert.Reference3Ideal.Read.val_main_v65_eq (F := Ideal) m' c).trans ?_
    exact congr (congr (congr (congr (congr (congr (congr (congr (congrArg (Cert.Reference3Ideal.Read.val_main_v65 (F := Ideal)) h0) h1) h2) h3) h4) h5)
      h6) h7) h8
  · refine (Cert.Reference3Ideal.Read.val_main_v64_eq (F := Ideal) m' c).trans ?_
    exact congr (congr (congr (congr (congr (congr (congr (congr (congr (congr (congr (congr (congrArg (Cert.Reference3Ideal.Read.val_main_v64 (F := Ideal)) h0)
      h1) h2) h3) h4) h5) h6) h7) h8) h9) h10) h11) h12

/-- The call leaves its arguments. -/
theorem frame_p3 : Cert.quiescent_Kernel3 := fun m ρ _ => Cert.Kernel3.Gen.frame m ρ

/-- The idealized call leaves its arguments. -/
theorem frame_pi3 : Cert.quiescent_Kernel3Ideal := fun m ρ _ => Cert.Kernel3Ideal.Gen.frame m ρ

/-- The reference leaves its arguments. -/
theorem frame_ri3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

end Cert.Proof.Merge

end
-- ==== Proof.ExpertsRun.lean ====
/-
  The run of the routed experts' call at any float instance: what one grid point leaves in its block of rows, and the
  launch with the table of experts and the count of used blocks held by the pipeline.
-/
module

public import proofs.«01_k».proof.Kernel4Ideal
public import proofs.«01_k».proof.Proof.Gen.Kernel4Ideal
public import proofs.«01_k».proof.Proof.Gen.Kernel4Ideal.Launch
public import proofs.«01_k».proof.Proof.Gen.Kernel4Ideal.Skeleton
public import Idealize.ShloMosaic.Lib.Tactic
public import Idealize.ShloMosaic.Lib.Claim
public import Idealize.ShloMosaic.Lib.Pipeline.Frame
public import Idealize.ShloMosaic.Lib.Pipeline.FrameBody
public import Idealize.ShloMosaic.Lib.ViewIndex
public import Idealize.ShloMosaic.Lib.WholeRead

@[expose] public section

noncomputable section

namespace Cert.Proof.Experts

open Cert.Kernel4Ideal Cert.Kernel4Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

/-! ## One grid point -/

/-- A block is used or it is not: exactly one of the body's two stores happens. -/
theorem cond2_iff (i : grid0.Coords) (n : BitVec 32) : k0_cond2 i n = 1#1 ↔ ¬ k0_cond1 i n = 1#1 := by
  have h : ∀ b : BitVec 1, Scalar.cmpi .ne (Scalar.extui b : BitVec 32) 0#32 = b := by decide
  have e1 : k0_cond1 i n = Scalar.cmpi .slt (BitVec.ofNat 32 (i 0).val) n := h _
  have e2 : k0_cond2 i n = Scalar.cmpi .sge (BitVec.ofNat 32 (i 0).val) n := h _
  rw [e1, e2]
  generalize BitVec.ofNat 32 (i 0).val = a
  simp only [Scalar.cmpi, IntOp.cmpi, BitVec.slt, BitVec.sle]
  by_cases h : a.toInt < n.toInt
  · simp [h, not_le.mpr h]
  · simp [h, not_lt.mp h]

/-- What one grid point leaves in its block of rows: the expert's output where the block is used, zero where not. -/
def outAt (i : grid0.Coords) (n : BitVec 32) (x0 : Vec F S256x512 .i32) (x1 x2 : Vec F S1x1024x512 .bf16)
    (x3 : Vec F S1x512x1024 .bf16) : Vec F S256x1024 .bf16 :=
  if k0_cond1 i n = 1#1 then k0_pay1 x0 x1 x2 x3 else k0_pay2

/-- The one word of the count's table. -/
abbrev count (f : S1.Idx → BitVec 32) : BitVec 32 := f (Shape.Idx.first (s := S1) (by decide))

/-- An array of one entry has one index. -/
theorem one_entry (x y : S1.Idx) : x = y := funext fun a => by
  fin_cases a
  exact Subsingleton.elim (α := Fin 1) _ _

/-- A load of a whole array from a whole memref reads what the memref holds. -/
theorem read_all {s : Shape} {e : EltTy} {M : Memref sig .tc .vmem s e} (h : M.IsWhole) (x : Vec F s e) (off : Fin s.rank → ℕ)
    (hoff : ∀ a, off a = 0) (inb) :
    View.readAt (Elt F) M.view (Rect.unit (s := s) off s.size inb).toLoadRect (h.unread x) = x := by
  funext y
  refine (Memref.IsWhole.readAt_unread h x _ y).trans (congrArg x (funext fun a => Fin.ext ?_))
  simp only [LoadRect.idx_apply, Rect.off_unit, Rect.stride_unit, Nat.one_mul, hoff, Nat.zero_add]

/-- A store of the whole block leaves the memref reading what was stored. -/
theorem read_stored (M : Memref sig .tc .vmem S256x1024 .bf16) (f : M.view.ty.Contents (Elt F)) (w : Vec F S256x1024 .bf16) (inb) :
    M.view.read (Elt F) ((M.access (Rect.unit (s := S256x1024) ![0, 0] S256x1024.size inb) : View sig .tc _ _ _).write (Elt F) f w Finset.univ) = w := by
  funext y
  have h := View.read_slice_write_emb (v := M.view) (Rect.unit (s := S256x1024) ![0, 0] S256x1024.size inb) f w (Finset.mem_univ y)
  refine Eq.trans (congrArg (M.view.read (Elt F) _) (funext fun a => Fin.ext ?_)) h
  simp only [Rect.emb_apply, Rect.off_unit, Rect.stride_unit, Nat.one_mul]
  fin_cases a <;> simp

/-- The body's read of the count's table is its one word. -/
theorem read_count (t1 : S1.Idx → BitVec 32) (inb) (h) :
    View.readAt (Elt F) (Memref.whole main_arg1 : Memref sig .tc _ _ _).view (Rect.unit (s := S1) ![0] S1.size inb).toLoadRect t1 (Shape.Idx.first h) = count t1 :=
  congrArg t1 (one_entry _ _)

/-- A table held at half its share, as the pipeline hands it to the body. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- One grid point: the blocks and the tables in place, the block of rows at `outAt`. -/
theorem point (c : Dev nD) (i : grid0.Coords) (M3 : Memref sig .tc .vmem S256x512 .i32) (h3 : M3.IsWhole)
    (M4 : Memref sig .tc .vmem S1x1024x512 .bf16) (h4 : M4.IsWhole) (M5 : Memref sig .tc .vmem S1x1024x512 .bf16) (h5 : M5.IsWhole)
    (M6 : Memref sig .tc .vmem S1x512x1024 .bf16) (h6 : M6.IsWhole) (M7 : Memref sig .tc .vmem S256x1024 .bf16) (h7 : M7.IsWhole)
    (x0 : Vec F S256x512 .i32) (x1 x2 : Vec F S1x1024x512 .bf16) (x3 : Vec F S1x512x1024 .bf16)
    (t0 : S288.Idx → BitVec 32) (t1 : S1.Idx → BitVec 32) (E : Set ℕ) (K : PUnit → sProp 𝕄) :
    iprop((owns (c : Thread nD τ) M3 fullShare x0 ∗ owns (c : Thread nD τ) M4 fullShare x1 ∗ owns (c : Thread nD τ) M5 fullShare x2
        ∗ owns (c : Thread nD τ) M6 fullShare x3 ∗ (∃ X, owns (c : Thread nD τ) M7 fullShare X)
        ∗ held c (Memref.whole main_arg0) t0 ∗ held c (Memref.whole main_arg1) t1)
      ∗ ((owns (c : Thread nD τ) M3 fullShare x0 ∗ owns (c : Thread nD τ) M4 fullShare x1 ∗ owns (c : Thread nD τ) M5 fullShare x2
        ∗ owns (c : Thread nD τ) M6 fullShare x3 ∗ owns (c : Thread nD τ) M7 fullShare (outAt i (count t1) x0 x1 x2 x3)
        ∗ held c (Memref.whole main_arg0) t0 ∗ held c (Memref.whole main_arg1) t1) -∗ K ⟨⟩))
    ⊢ wp frame (wpE (defs₀ (F := F)) Variants.none (c : Thread nD τ) none) E
        (cc0_experts i (Memref.whole main_arg0) (Memref.isWhole_whole _) (Memref.whole main_arg1) (Memref.isWhole_whole _) M3 h3 M4 h4 M5 h5 M6 h6 M7 h7) K := by
  simp only [cc0_experts_eq_skeleton]; unfold cc0_experts_skel
  simp only [smemLoad, smemLoadElt, Prog.lift, Prog.bind_op, Prog.bind_ret, Prog.pure_eq_ret]
  unfold owns held
  iintro ⟨⟨⟨%f3, %hf3, H3⟩, ⟨%f4, %hf4, H4⟩, ⟨%f5, %hf5, H5⟩, ⟨%f6, %hf6, H6⟩, ⟨%X7, %f7, %hf7, H7⟩, HT0, HT1⟩, Hk⟩
  obtain rfl := h3.eq_unread hf3
  obtain rfl := h4.eq_unread hf4
  obtain rfl := h5.eq_unread hf5
  obtain rfl := h6.eq_unread hf6
  iapply (wp_load Variants.none (c : Thread nD τ) none E (m := Memref.whole main_arg1) (Finset.subset_univ _)) $$ HT1; iintro HT1
  rw [read_count t1]
  by_cases hc : k0_cond1 i (count t1) = 1#1
  · rw [dif_pos hc]
    iapply (wp_load Variants.none (c : Thread nD τ) none E (m := M3) (View.setOn_subset_set _ _)) $$ H3; iintro H3
    rw [read_all h3 x0 _ (by decide)]
    iapply (wp_load Variants.none (c : Thread nD τ) none E (m := M4) (View.setOn_subset_set _ _)) $$ H4; iintro H4
    rw [read_all h4 x1 _ (by decide)]
    iapply (wp_load Variants.none (c : Thread nD τ) none E (m := M5) (View.setOn_subset_set _ _)) $$ H5; iintro H5
    rw [read_all h5 x2 _ (by decide)]
    iapply (wp_load Variants.none (c : Thread nD τ) none E (m := M6) (View.setOn_subset_set _ _)) $$ H6; iintro H6
    rw [read_all h6 x3 _ (by decide)]
    iapply (wp_load Variants.none (c : Thread nD τ) none E (m := M7) (View.setOn_subset_set _ _)) $$ H7; iintro H7
    iapply (wp_store Variants.none (c : Thread nD τ) none E (m := M7) (r := Rect.unit (s := S256x1024) ![0, 0] S256x1024.size inb_S256x1024_S256x1024_0_0) (Mk := Finset.univ)
      ((View.setOn_subset_set _ _).trans (View.set_slice_subset _ _))) $$ H7; iintro H7
    iapply (wp_load Variants.none (c : Thread nD τ) none E (m := Memref.whole main_arg1) (Finset.subset_univ _)) $$ HT1; iintro HT1
    rw [read_count t1, dif_neg (fun h => (cond2_iff i _).mp h hc), wp_ret]; imodintro
    rw [show outAt i (count t1) x0 x1 x2 x3 = k0_pay1 x0 x1 x2 x3 from if_pos hc]
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists (M7.access (Rect.unit (s := S256x1024) ![0, 0] S256x1024.size inb_S256x1024_S256x1024_0_0) : View sig .tc _ _ _).write (Elt F) f7 (k0_pay1 x0 x1 x2 x3) Finset.univ
      isplitr; · ipureintro; exact read_stored M7 f7 _ _
      iexact H7
    isplitl [HT0]; · iexact HT0
    iexact HT1
  · rw [dif_neg hc]
    iapply (wp_load Variants.none (c : Thread nD τ) none E (m := Memref.whole main_arg1) (Finset.subset_univ _)) $$ HT1; iintro HT1
    rw [read_count t1, dif_pos ((cond2_iff i _).mpr hc)]
    iapply (wp_load Variants.none (c : Thread nD τ) none E (m := M7) (View.setOn_subset_set _ _)) $$ H7; iintro H7
    iapply (wp_store Variants.none (c : Thread nD τ) none E (m := M7) (r := Rect.unit (s := S256x1024) ![0, 0] S256x1024.size inb_S256x1024_S256x1024_0_0) (Mk := Finset.univ)
      ((View.setOn_subset_set _ _).trans (View.set_slice_subset _ _))) $$ H7; iintro H7
    rw [wp_ret]; imodintro
    rw [show outAt i (count t1) x0 x1 x2 x3 = k0_pay2 from if_neg hc]
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists (M7.access (Rect.unit (s := S256x1024) ![0, 0] S256x1024.size inb_S256x1024_S256x1024_0_0) : View sig .tc _ _ _).write (Elt F) f7 k0_pay2 Finset.univ
      isplitr; · ipureintro; exact read_stored M7 f7 _ _
      iexact H7
    isplitl [HT0]; · iexact HT0
    iexact HT1

/-! ## The launch's data -/

variable (m : (ℓ : Loc nD τ sig) → Buf (Elt F) ℓ) (ρ : Dev nD → PrngReg)

/-- A core's buffers as the launch finds them. -/
abbrev V (c : Dev nD) (b : Ref sig .tc) : Buf (Elt F) ((c : Thread nD τ).loc b) := m ((c : Thread nD τ).loc b)

/-- The program is the one region. -/
theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun c => (main_chain c).trans rfl

/-- The tables: the expert of every block and the count of used blocks. -/
def tables : pre0.Contents (Elt F) := fun j => V m (0 : Dev nD) (pre0.ref j)

/-- Every core finds the same tables. -/
theorem V_tables (c : Dev nD) (j : Fin 2) : V m c (pre0.ref j) = tables m j := by
  obtain rfl : c = 0 := Subsingleton.elim _ _
  rfl

/-- Every expert named is one of the thirty-two. -/
abbrev Named32 : Prop := ok0 (F := F) (tables m)

/-- The pipeline at those tables. -/
abbrev atTables (hO : Named32 m) : (pcfg0 (F := F)).Adm := ⟨tables m, hO⟩
abbrev cfgT (hO : Named32 m) : Pipeline.Cfg sig Λ₀ := cfg0 (atTables m hO)

/-- What the pipeline hands the body of the tables, table by table. -/
theorem handed (c : Dev nD) : (Pipeline.ΦT pre0 (tables m) c : sProp 𝕄)
    = iprop(held c (Memref.whole main_arg0) (tables m 0) ∗ held c (Memref.whole main_arg1) (tables m 1)) := by
  unfold Pipeline.ΦT Pipeline.prefHeld
  rw [show (Finset.univ : Finset (Fin 2)) = insert 0 {1} from by decide, bigSep_insert (by decide), bigSep_singleton]
  rfl

/-- No point leaves the result's block alone. -/
theorem idle_out (i : grid0.Coords) : idle0 (tables m) 4 i = false := by
  have h := cond2_iff i ((tables m).atD 1 ![0])
  by_cases hc : k0_cond1 i ((tables m).atD 1 ![0]) = 1#1
  · simp [hc]
  · simp [h.mpr hc]

/-- Window `w`'s block at point `t`, read off its array. -/
def iblk (hO : Named32 m) (c : Dev nD) (w : Fin (cfgT m hO).W) (t : Fin (cfgT m hO).N) :
    (((cfgT m hO).win w).xblock ((cfgT m hO).grid.coords t)).Idx → Elt F ((cfgT m hO).win w).elt :=
  (((cfgT m hO).win w).blk t).view.read (Elt F) (V m c (Pipeline.arrRef spec0 w))

/-- What the launch is proved from: the inputs' blocks stay, the block of rows becomes `outAt` of them. -/
def dats (hO : Named32 m) (_ : Fin 1) (c : Dev nD) : Dat τ (Elt F) Unit ℕ (UR sig nD τ) ℕ (cfgT m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt (grid0.coords t) (count (tables m 1)) (iblk m hO c 0 t) (iblk m hO c 1 t) (iblk m hO c 2 t) (iblk m hO c 3 t)
  Φ _ := iprop(Pipeline.ΦA spec0 c ∗ Pipeline.ΦT pre0 (tables m) c)
  q _ := fullShare
  owed _ := 0

/-- The arrays start as the launch finds them. -/
theorem dats_A (hO : Named32 m) (c : Dev nD) (w : Fin (cfgT m hO).W) : (dats m hO 0 c).A w = V m c (Pipeline.arrRef spec0 w) := by
  dsimp only [dats]

/-- The rows' block stays, -/
theorem after_0 (hO : Named32 m) (c : Dev nD) (t : Fin (cfgT m hO).N) : (dats m hO 0 c).after 0 t = iblk m hO c 0 t := by dsimp only [dats]; rfl
/-- the gate's, -/
theorem after_1 (hO : Named32 m) (c : Dev nD) (t : Fin (cfgT m hO).N) : (dats m hO 0 c).after 1 t = iblk m hO c 1 t := by dsimp only [dats]; rfl
/-- the up projection's, -/
theorem after_2 (hO : Named32 m) (c : Dev nD) (t : Fin (cfgT m hO).N) : (dats m hO 0 c).after 2 t = iblk m hO c 2 t := by dsimp only [dats]; rfl
/-- the down projection's, -/
theorem after_3 (hO : Named32 m) (c : Dev nD) (t : Fin (cfgT m hO).N) : (dats m hO 0 c).after 3 t = iblk m hO c 3 t := by dsimp only [dats]; rfl
/-- and the block of rows becomes `outAt` of them. -/
theorem after_4 (hO : Named32 m) (c : Dev nD) (t : Fin (cfgT m hO).N) : (dats m hO 0 c).after 4 t
    = outAt (grid0.coords t) (count (tables m 1)) (iblk m hO c 0 t) (iblk m hO c 1 t) (iblk m hO c 2 t) (iblk m hO c 3 t) := by dsimp only [dats]; rfl

/-- An input's buffer holds its block at every point: the rows', -/
theorem before_0 (hO : Named32 m) (c : Dev nD) (t : Fin (cfgT m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rfl) t d).trans
    (by unfold Dat.fetched Dat.blockOf iblk; rfl)
/-- the gate's, -/
theorem before_1 (hO : Named32 m) (c : Dev nD) (t : Fin (cfgT m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rfl) t d).trans
    (by unfold Dat.fetched Dat.blockOf iblk; rfl)
/-- the up projection's, -/
theorem before_2 (hO : Named32 m) (c : Dev nD) (t : Fin (cfgT m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rfl) t d).trans
    (by unfold Dat.fetched Dat.blockOf iblk; rfl)
/-- the down projection's. -/
theorem before_3 (hO : Named32 m) (c : Dev nD) (t : Fin (cfgT m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rfl) t d).trans
    (by unfold Dat.fetched Dat.blockOf iblk; rfl)

/-- A case taken where its test fails. -/
theorem pick {P Q : sProp 𝕄} {b : Bool} : b = false → (Q ⊢ (match b with | true => P | false => Q)) := by
  rintro rfl
  exact .rfl

/-- The body at every point: what `point` says of it. -/
theorem body_obligation (hO : Named32 m) (c : Dev nD) : BodyObligation (dats (F := F) m hO 0 c) (defs₀ (F := F)) Variants.none () Set.univ := fun t => by
  rw [bigSep_W0, bigSep_W0]
  sl_whnfR [defs₀, Defs.onTc]
  rw [show (dats m hO 0 c).Φ t.succ = (dats m hO 0 c).Φ t.castSucc from rfl,
    show (dats m hO 0 c).owesAt () t.succ = (dats m hO 0 c).owesAt () t.castSucc from rfl, after_0, after_1, after_2, after_3, after_4]
  rw [show (dats m hO 0 c).Φ t.castSucc = iprop(Pipeline.ΦA spec0 c ∗ Pipeline.ΦT pre0 (tables m) c) from rfl, handed]
  iintro ⟨⟨HΦ, HT0, HT1⟩, Ho, ⟨%d0, H0⟩, ⟨%d1, H1⟩, ⟨%d2, H2⟩, ⟨%d3, H3⟩, ⟨%d4, H4⟩⟩
  rw [before_0 m hO c t d0, before_1 m hO c t d1, before_2 m hO c t d2, before_3 m hO c t d3]
  iapply (point c (grid0.coords t) _ _ _ _ _ _ _ _ _ _ (iblk m hO c 0 t) (iblk m hO c 1 t) (iblk m hO c 2 t) (iblk m hO c 3 t)
    (tables m 0) (tables m 1) Set.univ _)
  isplitl [H0 H1 H2 H3 H4 HT0 HT1]
  · isplitl [H0]; · iexact H0
    isplitl [H1]; · iexact H1
    isplitl [H2]; · iexact H2
    isplitl [H3]; · iexact H3
    isplitl [H4]; · iexists _; iexact H4
    isplitl [HT0]; · iexact HT0
    iexact HT1
  iintro ⟨H0, H1, H2, H3, H4, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  refine BIBase.Entails.trans ?_ (pick (idle_out m (grid0.coords t)))
  iintro H4; iexact H4

/-! ## The run and the frame -/

set_option backward.isDefEq.respectTransparency.types false in
/-- Every execution terminates, with every array at what the launch's data says and every counter at zero. -/
theorem run_main (hO : Named32 m) : θ_run defs (onTc (τ := τ) (main (F := F))) ⟨m, fun _ => 0, ρ⟩
    (fun r => Pipeline.FramePost (Pipeline.pin pcfgs fun _ => atTables m hO) (dats m hO) 0 (V m) r ∧ r.2.sem = fun _ => 0) :=
  Pipeline.θ_run_frameP (Q' := _) pcfgs (fun _ => atTables m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m) (hA := dats_A m hO) (hpf := V_tables m) (hΦ := fun _ _ => rfl)

/-- The arguments survive and the counters end at zero; the result's array is what the launch's data says. -/
theorem run_out (hO : Named32 m) : θ_run defs (onTc (τ := τ) (main (F := F))) ⟨m, fun _ => 0, ρ⟩ (fun r => (∀ c : Dev nD,
      r.2.mem ((c.tc : Thread nD τ).loc main_v0) = (dats m hO 0 c).arrAt 4 (cfgT m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (dats_A m hO c 0)),
      ((h.1 c).1 1).trans (((dats m hO 0 c).arrAt_in 1 rfl _).trans (dats_A m hO c 1)),
      ((h.1 c).1 2).trans (((dats m hO 0 c).arrAt_in 2 rfl _).trans (dats_A m hO c 2)),
      ((h.1 c).1 3).trans (((dats m hO 0 c).arrAt_in 3 rfl _).trans (dats_A m hO c 3))⟩, h.2⟩) (run_main m ρ hO)

/-- The frame. -/
theorem frame_all (hO : Named32 m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_out m ρ hO)

end Cert.Proof.Experts

end
-- ==== Proof.ExpertsValue.lean ====
/-
  The routed experts' call at an index: what a block's rows are, in the kernel's payloads and in the reference.
-/
module

public import proofs.«01_k».proof.Defs
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal
public import proofs.«01_k».proof.Proof.Gen.Kernel4Ideal.Skeleton
public import proofs.«01_k».proof.Proof.Merge

@[expose] public section

set_option maxRecDepth 16384

noncomputable section

namespace Cert.Proof.Experts

open Idealize.ShloMosaic Idealize.ShloMosaic.TcCoe Idealize.SL.Sem
open Cert.Proof.Inproj (nrm eta3 ix3_eq ix2_eq unit_step unit_origin)
open Cert.Proof.Merge (gate)

/-- A row's entries, unpacked from its words: the high halves, then the low halves. -/
def unpacked (w : Fin 512 → BitVec 32) (d : Fin 1024) : EReal :=
  if h : d.val < 512 then Scalar.ofBits (F := Ideal) .f32 (IntOp.andi (w ⟨d.val, h⟩) 4294901760#32)
  else Scalar.ofBits (F := Ideal) .f32 (w ⟨d.val - 512, by omega⟩ <<< 16)

/-- A shift by sixteen is within the word, on either unit. -/
theorem shift_sixteen (u : ArithUnit) (w : BitVec 32) : IntOp.shli u w 16#32 = w <<< 16 := by
  cases u <;> rfl

/-- A sum over a row's unpacked entries is the sum over the high halves and the sum over the low halves. -/
theorem sum_unpacked (w : Fin 512 → BitVec 32) (g : Fin 1024 → EReal) : ∑ d, unpacked w d * g d
    = (∑ e : Fin 512, Scalar.ofBits (F := Ideal) .f32 (IntOp.andi (w e) 4294901760#32) * g ⟨e.val, by omega⟩)
      + ∑ e : Fin 512, Scalar.ofBits (F := Ideal) .f32 (w e <<< 16) * g ⟨512 + e.val, by omega⟩ := by
  refine (Fin.sum_univ_add (a := 512) (b := 512) (fun d : Fin (512 + 512) => unpacked w d * g d)).trans
    (congrArg₂ (· + ·) (Finset.sum_congr rfl fun e _ => congrArg₂ (· * ·) ?_ rfl) (Finset.sum_congr rfl fun e _ => congrArg₂ (· * ·) ?_ rfl))
  · exact dif_pos e.isLt
  · refine (dif_neg (by simp)).trans ?_
    exact congrArg (fun i => Scalar.ofBits (F := Ideal) .f32 (w i <<< 16)) (Fin.ext (by simp))

/-- An entry of an expert's output for one row: the gated product with its first two weights, times its third. -/
def routed (x : Fin 1024 → EReal) (wg wu : Fin 1024 → Fin 512 → EReal) (wd : Fin 512 → Fin 1024 → EReal) (k : Fin 1024) : EReal :=
  ∑ f, ((∑ d, x d * wg d f) * gate (∑ d, x d * wg d f) * (∑ d, x d * wu d f)) * wd f k

/-- The row of the whole array that is a block's row. -/
def row (t : Fin 288) (r : Fin 256) : Fin 73728 := ⟨t.val * 256 + r.val, by omega⟩

section Gather

variable {α : Type}

/-- The dimension numbers of taking whole slabs of a rank-3 array by a column of indices. -/
abbrev slabDims (N n A B : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- An entry of the slabs taken is the entry of the slab the index names. -/
theorem slab_apply {N n A B : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (a : Fin A) (b : Fin B) (e : Fin N)
    (he : (idx (ix2 t (0 : Fin 1))).toInt.toNat = e.val) :
    Host.gather (slabDims N n A B wf) x idx (ix3 t a b) = x (ix3 e a b) := by
  unfold Host.gather
  refine congrArg x (funext fun c => Fin.ext ?_)
  show (slabDims N n A B wf).start (ix3 t a b) idx c + (slabDims N n A B wf).batchCoord (ix3 t a b) c
    + (slabDims N n A B wf).offCoord (ix3 t a b) c = _
  rw [GatherDims.batchCoord_eq_zero _ _ _ List.not_mem_nil]
  match c with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 3) ∈ (slabDims N n A B wf).startIndexMap from List.mem_singleton.mpr rfl)]
    have hsi : (slabDims N n A B wf).siIdx (ix3 t a b) ⟨List.idxOf (0 : Fin 3) (slabDims N n A B wf).startIndexMap,
        List.idxOf_lt_length_iff.2 (List.mem_singleton.mpr rfl)⟩ = ix2 t (0 : Fin 1) := by
      funext b'; refine Fin.ext ?_
      match b' with
      | ⟨0, _⟩ => rfl
      | ⟨1, _⟩ => rfl
    have h := e.isLt
    refine Eq.trans (b := min (idx (ix2 t (0 : Fin 1))).toInt.toNat (N - 1)) (congrArg (fun j => min (idx j).toInt.toNat (N - 1)) hsi) ?_
    rw [he]
    exact (by omega : min e.val (N - 1) = e.val)
  | ⟨1, h1⟩ =>
    unfold GatherDims.start
    rw [dif_neg (show (⟨1, h1⟩ : Fin 3) ∉ (slabDims N n A B wf).startIndexMap from fun h =>
      absurd (congrArg Fin.val (List.mem_singleton.mp h)) (by decide : (1 : ℕ) ≠ 0))]
    exact (Nat.zero_add _).trans rfl
  | ⟨2, h2⟩ =>
    unfold GatherDims.start
    rw [dif_neg (show (⟨2, h2⟩ : Fin 3) ∉ (slabDims N n A B wf).startIndexMap from fun h =>
      absurd (congrArg Fin.val (List.mem_singleton.mp h)) (by decide : (2 : ℕ) ≠ 0))]
    exact (Nat.zero_add _).trans rfl

end Gather

section Reference

open Cert.Reference4Ideal Cert.Reference4Ideal.Gen Cert.Reference4Ideal.Read

variable (x0 : IVec S288 32) (x1 : IVec S1 32) (x2 : IVec S73728x512 32) (x3 x4 : FVec Ideal S32x1024x512 .bf16) (x5 : FVec Ideal S32x512x1024 .bf16)

/-- The reference's rows. -/
theorem ref_x (t : Fin 288) (r : Fin 256) (d : Fin 1024) : val_main_v9 (F := Ideal) x2 (ix3 t r d)
    = unpacked (fun e => x2 (ix2 (row t r) e)) d := by
  unfold unpacked row
  pointwise [val_main_v9, val_main_v8, val_main_v7, val_main_v6, val_main_v5, val_main_v4, val_main_v3, val_main_c, val_main_c_0]
  by_cases h : d.val < 512
  · rw [dif_pos h, dif_pos h]
  · rw [dif_neg h, dif_neg h]; rfl

/-- A word that names an expert is not negative, so the reference's index is the word itself. -/
theorem ref_index (t : Fin 288) (h : (x0 (ix1 t)).toNat < 32) : (Scalar.select (IntOp.cmpi .slt (x0 (ix1 t)) 0#32) (IntOp.addi (x0 (ix1 t)) 32#32) (x0 (ix1 t))).toInt.toNat
    = (x0 (ix1 t)).toNat := by
  have h1 : (x0 (ix1 t)).toInt = (x0 (ix1 t)).toNat := by rw [BitVec.toInt_eq_toNat_cond]; split <;> omega
  have h0 : IntOp.cmpi .slt (x0 (ix1 t)) 0#32 = 0#1 := by
    simp only [IntOp.cmpi, BitVec.slt, h1]
    exact congrArg BitVec.ofBool (decide_eq_false (by show ¬ ((x0 (ix1 t)).toNat : Int) < 0; omega))
  rw [h0]
  show (x0 (ix1 t)).toInt.toNat = _
  rw [h1]; rfl

/-- The reference's gate weights of a block. -/
theorem ref_wg (t : Fin 288) (h : (x0 (ix1 t)).toNat < 32) (d : Fin 1024) (f : Fin 512) :
    val_main_v16 (F := Ideal) x0 x3 (ix3 t d f) = x3 (ix3 ⟨(x0 (ix1 t)).toNat, h⟩ d f) := by
  refine (slab_apply _ _ _ t d f ⟨(x0 (ix1 t)).toNat, h⟩ (Eq.trans (congrArg (fun w : BitVec 32 => w.toInt.toNat) ?_) (ref_index x0 t h))).trans ?_
  · pointwise [val_main_v15, val_main_v14, val_main_v13, val_main_v12, val_main_v11, val_main_v10, val_main_c_1, val_main_c_2]
  · pointwise [val_main_v0]

/-- The reference's up weights of a block. -/
theorem ref_wu (t : Fin 288) (h : (x0 (ix1 t)).toNat < 32) (d : Fin 1024) (f : Fin 512) :
    val_main_v25 (F := Ideal) x0 x4 (ix3 t d f) = x4 (ix3 ⟨(x0 (ix1 t)).toNat, h⟩ d f) := by
  refine (slab_apply _ _ _ t d f ⟨(x0 (ix1 t)).toNat, h⟩ (Eq.trans (congrArg (fun w : BitVec 32 => w.toInt.toNat) ?_) (ref_index x0 t h))).trans ?_
  · pointwise [val_main_v24, val_main_v23, val_main_v22, val_main_v21, val_main_v20, val_main_v19, val_main_c_3, val_main_c_4]
  · pointwise [val_main_v1]

/-- The reference's down weights of a block. -/
theorem ref_wd (t : Fin 288) (h : (x0 (ix1 t)).toNat < 32) (f : Fin 512) (k : Fin 1024) :
    val_main_v34 (F := Ideal) x0 x5 (ix3 t f k) = x5 (ix3 ⟨(x0 (ix1 t)).toNat, h⟩ f k) := by
  refine (slab_apply _ _ _ t f k ⟨(x0 (ix1 t)).toNat, h⟩ (Eq.trans (congrArg (fun w : BitVec 32 => w.toInt.toNat) ?_) (ref_index x0 t h))).trans ?_
  · pointwise [val_main_v33, val_main_v32, val_main_v31, val_main_v30, val_main_v29, val_main_v28, val_main_c_5, val_main_c_6]
  · pointwise [val_main_v2]

/-- The reference's experts. -/
theorem ref_routed (t : Fin 288) (r : Fin 256) (k : Fin 1024) : val_main_v35 (F := Ideal) x0 x2 x3 x4 x5 (ix3 t r k)
    = routed (fun d => val_main_v9 (F := Ideal) x2 (ix3 t r d)) (fun d f => val_main_v16 (F := Ideal) x0 x3 (ix3 t d f))
        (fun d f => val_main_v25 (F := Ideal) x0 x4 (ix3 t d f)) (fun f k => val_main_v34 (F := Ideal) x0 x5 (ix3 t f k)) k := by
  pointwise [val_main_v35, val_main_v27, val_main_v26, val_main_v18, val_main_call0_v5, val_main_call0_v4, val_main_call0_v3, val_main_call0_v2,
    val_main_call0_v1, val_main_call0_v0, val_main_call0_cst, val_main_call0_cst_0, val_main_v17]
  rfl

/-- The reference's result: an expert's output in a used block, zero in the others. -/
theorem ref_out (t : Fin 288) (r : Fin 256) (k : Fin 1024) : val_main_v43 (F := Ideal) x0 x1 x2 x3 x4 x5 (ix2 (row t r) k)
    = if IntOp.cmpi .slt (BitVec.ofNat 32 t.val) (x1 (ix1 0)) = 1#1 then val_main_v35 (F := Ideal) x0 x2 x3 x4 x5 (ix3 t r k) else 0 := by
  unfold row
  pointwise [val_main_v43, val_main_v42, val_main_v41, val_main_call1_v2, val_main_call1_v1, val_main_call1_v0, val_main_cst, val_main_v40, val_main_v39,
    val_main_v38, val_main_v37, val_main_v36]
  have e : (id (constant (F := Ideal) S_ .f32 0x00000000#32) ix0 : EReal) = 0 := by
    show constant (F := Ideal) S_ .f32 0x00000000#32 ix0 = 0
    pointwise
  rw [e]
  by_cases h : IntOp.cmpi .slt (BitVec.ofNat 32 t.val) (x1 (ix1 0)) = 1#1
  · rw [if_pos h]; exact if_pos h
  · rw [if_neg h]; exact if_neg h

end Reference

section Kernel

open Cert.Kernel4Ideal Cert.Kernel4Ideal.Gen

/-- What the kernel stores in a used block. -/
theorem pay1_apply (x0 : Vec Ideal S256x512 .i32) (x1 x2 : Vec Ideal S1x1024x512 .bf16) (x3 : Vec Ideal S1x512x1024 .bf16) (r : Fin 256) (k : Fin 1024) :
    k0_pay1 (F := Ideal) x0 x1 x2 x3 (ix2 r k)
      = routed (unpacked fun e => x0 (ix2 r e)) (fun d f => x1 (ix3 0 d f)) (fun d f => x2 (ix3 0 d f)) (fun f k => x3 (ix3 0 f k)) k := by
  unfold routed
  simp only [sum_unpacked]
  pointwise [k0_pay1]
  simp only [shift_sixteen]
  rfl

/-- What the kernel stores in an unused block. -/
theorem pay2_apply (y : S256x1024.Idx) : k0_pay2 (F := Ideal) y = 0 := by
  pointwise [k0_pay2]

end Kernel

end Cert.Proof.Experts

end
-- ==== Proof.Experts.lean ====
/-
  The routed experts' call: its result is the reference's.
-/
module

public import proofs.«01_k».proof.Defs
public import proofs.«01_k».proof.Proof.Gen.Kernel4
public import proofs.«01_k».proof.Proof.Gen.Pre_experts_named
public import proofs.«01_k».proof.Proof.ExpertsRun
public import proofs.«01_k».proof.Proof.ExpertsValue

@[expose] public section

set_option maxRecDepth 16384

noncomputable section

namespace Cert.Proof.Experts

open Idealize.ShloMosaic Idealize.ShloMosaic.TcCoe Idealize.SL.Sem
open Idealize.ShloMosaic.Pipeline (Dat)
open Cert.Proof.Inproj (eta3 ix3_eq ix2_eq unit_step unit_origin)

/-! ## The precondition -/

section Named

open Cert.Kernel4Ideal Cert.Kernel4Ideal.Gen

variable {F : FTy → Type} [FloatOps F]

/-- The precondition names one of the thirty-two experts in every word of the table. -/
theorem word_named (tbl : IVec Cert.Pre_experts_named.S288 32) (a1 : IVec Cert.Pre_experts_named.S1 32) (a2 : IVec Cert.Pre_experts_named.S73728x512 32)
    (a3 a4 : FVec F Cert.Pre_experts_named.S32x1024x512 .bf16) (a5 : FVec F Cert.Pre_experts_named.S32x512x1024 .bf16)
    (h : Cert.Pre_experts_named.fn (F := F) tbl a1 a2 a3 a4 a5 = fun _ => 1#1) (w : Cert.Pre_experts_named.S288.Idx) : (tbl w).toNat < 32 := by
  have andi_one (a b : BitVec 1) : IntOp.andi a b = 1#1 ↔ a = 1#1 ∧ b = 1#1 := by revert a b; decide
  have bit (b : Bool) : BitVec.ofBool b = 1#1 → b = true := by cases b <;> decide
  have pre := congrFun h w
  simp only [Cert.Pre_experts_named.fn, constantI, broadcastInDim, cmpi, andi, andi_one, IntOp.cmpi] at pre
  have e0 : (0#32 : BitVec 32).toInt ≤ (tbl w).toInt := of_decide_eq_true (bit _ pre.1)
  have e1 : (tbl w).toInt < (32#32 : BitVec 32).toInt := of_decide_eq_true (bit _ pre.2)
  rw [show (0#32 : BitVec 32).toInt = 0 from by decide] at e0
  rw [show (32#32 : BitVec 32).toInt = 32 from by decide] at e1
  have := (tbl w).isLt
  rw [BitVec.toInt_eq_toNat_cond] at e0 e1
  split at e0 <;> omega

/-- Tables that name only the thirty-two experts satisfy the pipeline's side condition. -/
theorem ok_of_named (pf : pre0.Contents (Elt F)) (h : ∀ w : S288.Idx, (show BitVec 32 from pf 0 w).toNat < 32) : ok0 (F := F) pf := by
  have le : ∀ {n : ℕ}, n < 32 → (n + 1) * 1 ≤ 32 := by omega
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    fin_cases a
    · exact le (h _)
    · exact Nat.le_of_eq rfl
    · exact Nat.le_of_eq rfl

/-- The idealized call leaves its arguments. -/
theorem frame_pi4 : Cert.quiescent_Kernel4Ideal := fun m ρ hpre =>
  frame_all m ρ (ok_of_named _ fun w => word_named _ _ _ _ _ _ (hpre 0) w)

end Named

/-! ## The call as written

At the machine's words the two texts are the same program, so the idealized call's account serves for it. -/

/-- The call's table of bodies is the idealized call's. -/
theorem bodies_eq : Cert.Kernel4.defs₀ (F := Bits) = Cert.Kernel4Ideal.defs₀ (F := Bits) := by
  unfold Cert.Kernel4.defs₀ Cert.Kernel4Ideal.defs₀
  refine congrArg (Defs.onTc (nD := Cert.Kernel4.nD) (τ := Cert.Kernel4.τ) (sig := Cert.Kernel4.sig) (Val := Elt Bits) (Λ := Cert.Kernel4.Λ₀)) (funext fun l => funext fun a => ?_)
  match l, a with
  | ⟨0, _⟩, (t, s) => rfl
  | ⟨n + 1, h⟩, _ => exact absurd h (Nat.not_lt.2 (Nat.le_add_left _ _))

/-- The call's definitions are the idealized call's. -/
theorem defs_eq : Cert.Kernel4.defs (F := Bits) = Cert.Kernel4Ideal.defs (F := Bits) :=
  congrArg (Pipeline.defs (Cert.Kernel4.pcfgs (F := Bits))) bodies_eq

/-- The call as written leaves its arguments. -/
theorem frame_p4 : Cert.quiescent_Kernel4 := fun m ρ hpre => by
  have hO : Named32 (F := Bits) m := ok_of_named _ fun w => word_named _ _ _ _ _ _ (hpre 0) w
  have h := frame_all (F := Bits) m ρ hO
  refine (congrArg (fun d => θ_run d (onTc (τ := Cert.Kernel4.τ) (Cert.Kernel4.main (F := Bits))) ⟨m, fun _ => 0, ρ⟩ _) defs_eq).mpr ?_
  exact h

/-- The reference leaves its arguments. -/
theorem frame_ri4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-! ## The blocks -/

section Blocks

open Cert.Kernel4Ideal Cert.Kernel4Ideal.Gen

variable (m : (ℓ : Loc nD τ sig) → Buf (Elt Ideal) ℓ) (hO : Named32 m)

/-- The block of a point. -/
def pt (t : Fin (cfgT m hO).N) : Fin 288 := ⟨t.val, lt_of_lt_of_eq (show t.val < grid0.N from t.isLt) (by decide +kernel)⟩

/-- A point's coordinate is its number. -/
theorem coord (t : Fin (cfgT m hO).N) : ((grid0.coords t) 0).val = t.val :=
  (by decide +kernel : ∀ t : Fin grid0.N, ((grid0.coords t) 0).val = t.val) t

/-- A point's coordinate as a word. -/
theorem coord_word (t : Fin (cfgT m hO).N) : (BitVec.ofNat 32 ((grid0.coords t) 0).val).toNat = t.val := by
  have h := (pt m hO t).isLt
  have e : (pt m hO t).val = t.val := rfl
  rw [BitVec.toNat_ofNat, coord m hO t, Nat.mod_eq_of_lt (by omega)]

/-- The experts' table. -/
abbrev table (c : Dev nD) : IVec S288 32 := m ((c : Thread nD τ).loc main_arg0)

/-- The word a weight window reads at a point is the block's. -/
theorem word_at (c : Dev nD) (t : Fin (cfgT m hO).N) : (tables m).at 0 (Rect.unit (s := S288) ![(BitVec.ofNat 32 ((grid0.coords t) 0).val).toNat] S1.size
    (Cert.Kernel4Ideal.Gen.k0_off1_inb (grid0.coords t))) Cert.Kernel4Ideal.Gen.numel1_S1 = table m c (ix1 (pt m hO t)) := by
  obtain rfl : c = 0 := Subsingleton.elim _ _
  refine congrArg (table m 0) (funext fun a => Fin.ext ?_)
  obtain rfl : a = (0 : Fin 1) := Subsingleton.elim (α := Fin 1) _ _
  exact (rfl : _ = (BitVec.ofNat 32 ((grid0.coords t) 0).val).toNat + 1 * 0).trans (coord_word m hO t)

/-- The rows' blocks follow the points. -/
theorem idx0 (t : Fin (cfgT m hO).N) : ((cfgT m hO).win 0).index t = ![t.val, 0] := by
  show ![(BitVec.ofNat 32 ((grid0.coords t) 0).val).toNat, (0#32).toNat] = _
  rw [coord_word m hO t]; rfl

/-- The result's blocks follow the points. -/
theorem idx4 (t : Fin (cfgT m hO).N) : ((cfgT m hO).win 4).index t = ![t.val, 0] := by
  show ![(BitVec.ofNat 32 ((grid0.coords t) 0).val).toNat, (0#32).toNat] = _
  rw [coord_word m hO t]; rfl

/-- The gate weights' block is the expert's. -/
theorem idx1 (c : Dev nD) (t : Fin (cfgT m hO).N) : ((cfgT m hO).win 1).index t = ![(table m c (ix1 (pt m hO t))).toNat, 0, 0] := by
  rw [← word_at m hO c t]; rfl

/-- The up weights' block is the expert's. -/
theorem idx2 (c : Dev nD) (t : Fin (cfgT m hO).N) : ((cfgT m hO).win 2).index t = ![(table m c (ix1 (pt m hO t))).toNat, 0, 0] := by
  rw [← word_at m hO c t]; rfl

/-- The down weights' block is the expert's. -/
theorem idx3 (c : Dev nD) (t : Fin (cfgT m hO).N) : ((cfgT m hO).win 3).index t = ![(table m c (ix1 (pt m hO t))).toNat, 0, 0] := by
  rw [← word_at m hO c t]; rfl

variable (c : Dev nD) (t : Fin (cfgT m hO).N)

/-- A point's rows. -/
theorem x_read (r : Fin 256) (e : Fin 512) : (show Vec Ideal S256x512 .i32 from iblk m hO c 0 t) (ix2 r e)
    = m ((c : Thread nD τ).loc main_arg2) (ix2 (row (pt m hO t) r) e) := by
  unfold row pt
  blk_ext [iblk, V, idx0 m hO t]

variable (h32 : (table m c (ix1 (pt m hO t))).toNat < 32)

/-- A point's gate weights. -/
theorem wg_read (d : Fin 1024) (f : Fin 512) : (show Vec Ideal S1x1024x512 .bf16 from iblk m hO c 1 t) (ix3 0 d f)
    = m ((c : Thread nD τ).loc main_arg3) (ix3 ⟨_, h32⟩ d f) := by
  blk_ext [iblk, V, idx1 m hO c t]

/-- A point's up weights. -/
theorem wu_read (d : Fin 1024) (f : Fin 512) : (show Vec Ideal S1x1024x512 .bf16 from iblk m hO c 2 t) (ix3 0 d f)
    = m ((c : Thread nD τ).loc main_arg4) (ix3 ⟨_, h32⟩ d f) := by
  blk_ext [iblk, V, idx2 m hO c t]

/-- A point's down weights. -/
theorem wd_read (f : Fin 512) (k : Fin 1024) : (show Vec Ideal S1x512x1024 .bf16 from iblk m hO c 3 t) (ix3 0 f k)
    = m ((c : Thread nD τ).loc main_arg5) (ix3 ⟨_, h32⟩ f k) := by
  blk_ext [iblk, V, idx3 m hO c t]

/-- The body's test of a point. -/
theorem used (i : grid0.Coords) (n : BitVec 32) : k0_cond1 i n = IntOp.cmpi .slt (BitVec.ofNat 32 (i 0).val) n :=
  (by decide : ∀ b : BitVec 1, Scalar.cmpi .ne (Scalar.extui b : BitVec 32) 0#32 = b) _

/-- The reference's result at the launch's arguments. -/
abbrev R43 (c : Dev nD) : FVec Ideal ⟨2, ![73728, 1024]⟩ .bf16 := Cert.Reference4Ideal.Read.val_main_v43 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5))

/-- The count of used blocks. -/
theorem count_word : count (tables m 1) = (show IVec S1 32 from m ((c : Thread nD τ).loc main_arg1)) (ix1 0) := by
  obtain rfl : c = 0 := Subsingleton.elim _ _
  exact congrArg (show IVec S1 32 from m (((0 : Dev nD) : Thread nD τ).loc main_arg1)) (one_entry _ _)

/-- A point's block is the reference's. -/
theorem block_eq (h32 : (table m c (ix1 (pt m hO t))).toNat < 32) (r : Fin 256) (k : Fin 1024) : outAt (F := Ideal) (grid0.coords t) (count (tables m 1)) (iblk m hO c 0 t) (iblk m hO c 1 t) (iblk m hO c 2 t)
    (iblk m hO c 3 t) (ix2 r k) = R43 m c (ix2 (row (pt m hO t) r) k) := by
  refine Eq.trans ?_ (ref_out _ _ _ _ _ _ (pt m hO t) r k).symm
  unfold outAt
  rw [used, coord m hO t, count_word m c]
  by_cases hc : IntOp.cmpi .slt (BitVec.ofNat 32 t.val) ((show IVec S1 32 from m ((c : Thread nD τ).loc main_arg1)) (ix1 0)) = 1#1
  · rw [if_pos hc]
    refine Eq.trans ?_ (if_pos hc).symm
    refine (pay1_apply _ _ _ _ r k).trans (Eq.trans ?_ (ref_routed _ _ _ _ _ (pt m hO t) r k).symm)
    refine congrFun (congr (congr (congr (congrArg routed (funext fun d => ?_)) (funext fun d => funext fun f => ?_)) (funext fun d => funext fun f => ?_))
      (funext fun f => funext fun k => ?_)) k
    · exact (congrArg (fun w => unpacked w d) (funext fun e => x_read m hO c t r e)).trans (ref_x _ (pt m hO t) r d).symm
    · exact (wg_read m hO c t h32 d f).trans (ref_wg _ _ (pt m hO t) h32 d f).symm
    · exact (wu_read m hO c t h32 d f).trans (ref_wu _ _ (pt m hO t) h32 d f).symm
    · exact (wd_read m hO c t h32 f k).trans (ref_wd _ _ (pt m hO t) h32 f k).symm
  · rw [if_neg hc]
    exact (pay2_apply _).trans (if_neg hc).symm

/-- Every point writes its block back. -/
theorem flush4 : ((cfgT m hO).win 4).flush t = true :=
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

/-- A block of the result has rows and columns. -/
theorem block_side : ∀ a, 0 < S256x1024.size a := by decide

/-- The result's blocks cover it. -/
theorem covers4 : ((cfgT m hO).win 4).Covers := by
  refine ⟨block_side, fun β => ?_⟩
  have h0 : (β (0 : Fin 2)).val < 288 := lt_of_lt_of_eq (β (0 : Fin 2)).isLt (show (73728 + 256 - 1) / 256 = 288 from by decide)
  have h1 : (β (1 : Fin 2)).val < 1 := lt_of_lt_of_eq (β (1 : Fin 2)).isLt (show (1024 + 1024 - 1) / 1024 = 1 from by decide)
  let t : Fin (cfgT m hO).N := ⟨(β (0 : Fin 2)).val, lt_of_lt_of_eq h0 (by decide +kernel : 288 = grid0.N)⟩
  refine ⟨t, flush4 m hO t, fun a => ⟨?_, .inl rfl⟩⟩
  rw [idx4 m hO t]
  match a with
  | ⟨0, _⟩ => rfl
  | ⟨1, _⟩ => exact (Nat.lt_one_iff.mp h1).symm

/-- The result after the run. -/
theorem final4 (c : Dev nD) (h : ∀ w, (table m c w).toNat < 32) : (dats m hO 0 c).arrAt 4 (cfgT m hO).N = R43 m c := by
  refine (dats m hO 0 c).arrAt_eq_of_covers 4 _ (covers4 m hO) fun t hf y => ?_
  blk_simp
  rw [after_4]
  have hy : y = ix2 (y (0 : Fin 2)) (y (1 : Fin 2)) := eq_ix2 y
  refine (congrArg (outAt (F := Ideal) (grid0.coords t) (count (tables m 1)) (iblk m hO c 0 t) (iblk m hO c 1 t) (iblk m hO c 2 t)
    (iblk m hO c 3 t)) hy).trans (Eq.trans (block_eq m hO c t (h _) (y (0 : Fin 2)) (y (1 : Fin 2))) (congrArg (R43 m c) ?_))
  unfold row pt
  refine ix2_eq (Eq.trans (b := t.val * 256 + (y (0 : Fin 2)).val) rfl ?_) ?_
  all_goals
    blk_simp [idx4 m hO t]
    all_goals omega

end Blocks

/-- Kernel and reference agree. -/
theorem algebraic4 : Cert.algebraic_Kernel4Ideal_Reference4Ideal := by
  intro m ρ m' ρ' hpre hagree
  have h32 : ∀ c w, (table m c w).toNat < 32 := fun c w => word_named _ _ _ _ _ _ (hpre c) w
  have hO : Named32 m := ok_of_named _ (h32 0)
  refine ⟨R43 m, ?_, ?_⟩
  · exact (θ_run Cert.Kernel4Ideal.defs _ _).mono (fun r h c => ⟨(h.1 c).1.trans (final4 m hO c (h32 c)), (h.1 c).2⟩) (run_out m ρ hO)
  refine (θ_run Cert.Reference4Ideal.defs _ _).mono (fun _ h c => ⟨(h c).1.trans ?_, (h c).2⟩) (Cert.Reference4Ideal.Value.run (F := Ideal) m' ρ')
  obtain ⟨h0, h1, h2, h3, h4, h5⟩ := hagree c
  refine (Cert.Reference4Ideal.Read.val_main_v43_eq (F := Ideal) m' c).trans ?_
  exact congr (congr (congr (congr (congr (congrArg (Cert.Reference4Ideal.Read.val_main_v43 (F := Ideal)) h0) h1) h2) h3) h4) h5

end Cert.Proof.Experts

end
-- ==== Proof.lean ====
/-
  The proof of the claims: the witnesses of the programs' facts, then each claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Ref
public import proofs.«01_k».proof.Proof.Algebraic
public import proofs.«01_k».proof.Proof.Inproj
public import proofs.«01_k».proof.Proof.Merge
public import proofs.«01_k».proof.Proof.Experts

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_experts_named.Gen.facts,
  frame_p, frame_pi, frame_ri, Inproj.frame_p2, Inproj.frame_pi2, Inproj.frame_ri2,
  Merge.frame_p3, Merge.frame_pi3, Merge.frame_ri3,
  Experts.frame_p4, Experts.frame_pi4, Experts.frame_ri4,
  preserves, algebraic, trivial, Inproj.algebraic2, trivial, Merge.algebraic3,
  trivial, Experts.algebraic4⟩

end Cert.Proof

end
